-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_max_finite [hPre_row_max_finite : Cert.Pre_row_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_row_max_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_max_finite [hPre_row_max_finite : Cert.Pre_row_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_max_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_row_max_finite [hKernelIdeal : Cert.KernelIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_row_max_finite [hReferenceIdeal : Cert.ReferenceIdeal.Facts] [hPre_row_max_finite : Cert.Pre_row_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_row_max_finite [hKernelIdeal : Cert.KernelIdeal.Facts] [hReferenceIdeal : Cert.ReferenceIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_row_max_finite : Cert.Pre_row_max_finite.Facts),
    quiescent_Kernel (hKernel := hKernel)
    ∧ quiescent_KernelIdeal (hKernelIdeal := hKernelIdeal)
    ∧ quiescent_KernelIdeal_pre_row_max_finite (hKernelIdeal := hKernelIdeal) (hPre_row_max_finite := hPre_row_max_finite)
    ∧ quiescent_ReferenceIdeal (hReferenceIdeal := hReferenceIdeal)
    ∧ quiescent_ReferenceIdeal_pre_row_max_finite (hReferenceIdeal := hReferenceIdeal) (hPre_row_max_finite := hPre_row_max_finite)
    ∧ preserves_Kernel_KernelIdeal
    ∧ algebraic_KernelIdeal_ReferenceIdeal_pre_row_max_finite (hKernelIdeal := hKernelIdeal) (hReferenceIdeal := hReferenceIdeal) (hPre_row_max_finite := hPre_row_max_finite)
-- ==== Pre_row_max_finite.lean ====
abbrev S1x1024x50257 : Shape := ⟨3, ![1, 1024, 50257]⟩
abbrev S_ : Shape := ⟨0, ![]⟩
abbrev S1x1024 : Shape := ⟨2, ![1, 1024]⟩

class Facts : Prop where
  reducesTo_S1x1024x50257_S1x1024_d2 : S1x1024x50257.ReducesTo [2] S1x1024
  h_S_ : 0 < S_.numel
  bcast_S_S1x1024 : S_.BroadcastsInDim S1x1024 (![] : Fin 0 → Fin S1x1024.rank)

variable [Facts]

def fn {F : FTy → Type} [FloatOps F] (main_arg0 : FVec F S1x1024x50257 .f32) : IVec S1x1024 1 :=
  let main_cst : FVec F S_ .f32 := constant S_ .f32 0xFF800000#32
  let main_v0 : FVec F S1x1024 .f32 := (fun x v => Host.reduce FloatOps.maximumf x v reducesTo_S1x1024x50257_S1x1024_d2 h_S_) main_arg0 main_cst
  let main_v1 : FVec F S1x1024 .f32 := Host.absf main_v0
  let main_cst_0 : FVec F S_ .f32 := constant S_ .f32 0x7F800000#32
  let main_v2 : FVec F S1x1024 .f32 := broadcastInDim S1x1024 ![] bcast_S_S1x1024 main_cst_0
  let main_v3 : IVec S1x1024 1 := cmpf .olt main_v1 main_v2
  main_v3
-- ==== Kernel.lean ====
abbrev S1x1024x50257 : Shape := ⟨3, ![1, 1024, 50257]⟩
abbrev S1024x50257 : Shape := ⟨2, ![1024, 50257]⟩
abbrev S1024x128 : Shape := ⟨2, ![1024, 128]⟩
abbrev S8x50257 : Shape := ⟨2, ![8, 50257]⟩
abbrev S8x128 : Shape := ⟨2, ![8, 128]⟩
abbrev S8x512 : Shape := ⟨2, ![8, 512]⟩
abbrev S8 : Shape := ⟨1, ![8]⟩
abbrev S8x1 : Shape := ⟨2, ![8, 1]⟩
abbrev S16x128 : Shape := ⟨2, ![16, 128]⟩
abbrev S16x50257 : Shape := ⟨2, ![16, 50257]⟩
abbrev S16x1 : Shape := ⟨2, ![16, 1]⟩
abbrev S1024x1 : Shape := ⟨2, ![1024, 1]⟩
abbrev S1024 : Shape := ⟨1, ![1024]⟩
abbrev S1x1024 : Shape := ⟨2, ![1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S1x1024x50257, .f32⟩
  | .hbm, ⟨1, _⟩ => ⟨S1024x50257, .f32⟩
  | .hbm, ⟨2, _⟩ => ⟨S1024x128, .i32⟩
  | .hbm, ⟨3, _⟩ => ⟨S1024x128, .f32⟩
  | .hbm, ⟨4, _⟩ => ⟨S1024x50257, .f32⟩
  | .hbm, ⟨5, _⟩ => ⟨S1024x1, .f32⟩
  | .hbm, ⟨6, _⟩ => ⟨S1024, .f32⟩
  | .hbm, ⟨7, _⟩ => ⟨S1x1024, .f32⟩
  | .hbm, ⟨8, _⟩ => ⟨S1x1024x50257, .f32⟩
  | .local _ .vmem, ⟨0, _⟩ => ⟨S8x50257, .f32⟩
  | .local _ .vmem, ⟨1, _⟩ => ⟨S8x50257, .f32⟩
  | .local _ .vmem, ⟨2, _⟩ => ⟨S8x128, .i32⟩
  | .local _ .vmem, ⟨3, _⟩ => ⟨S8x128, .i32⟩
  | .local _ .vmem, ⟨4, _⟩ => ⟨S8x128, .f32⟩
  | .local _ .vmem, ⟨5, _⟩ => ⟨S8x128, .f32⟩
  | .local _ .vmem, ⟨6, _⟩ => ⟨S16x128, .i32⟩
  | .local _ .vmem, ⟨7, _⟩ => ⟨S16x128, .i32⟩
  | .local _ .vmem, ⟨8, _⟩ => ⟨S16x50257, .f32⟩
  | .local _ .vmem, ⟨9, _⟩ => ⟨S16x50257, .f32⟩
  | _, _ => ⟨S1x1024x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x50257 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S1x1024x50257 : Shape := ⟨3, ![1, 1024, 50257]⟩
abbrev S_ : Shape := ⟨0, ![]⟩
abbrev S1 : Shape := ⟨1, ![1]⟩
abbrev S2 : Shape := ⟨1, ![2]⟩
abbrev S1x1x1 : Shape := ⟨3, ![1, 1, 1]⟩
abbrev S1x1024 : Shape := ⟨2, ![1, 1024]⟩
abbrev S1x1024x1 : Shape := ⟨3, ![1, 1024, 1]⟩
abbrev S1x1x50257 : Shape := ⟨3, ![1, 1, 50257]⟩
abbrev S50257 : Shape := ⟨1, ![50257]⟩

abbrev nBuf : Space → Nat
  | .hbm => 330
  | .vmem => 0
  | .smem => 0
  | _ => 0

abbrev hbmTy0_0 (i : Nat) : BufTy := match i % 128 with
  | 0 => ⟨S1x1024x50257, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1x1, .f32⟩
  | 16 => ⟨S1x1x1, .f32⟩
  | 17 => ⟨S1, .i32⟩
  | 18 => ⟨S_, .i32⟩
  | 19 => ⟨S1, .i32⟩
  | 20 => ⟨S_, .i32⟩
  | 21 => ⟨S1x1024x50257, .i64⟩
  | 22 => ⟨S1x1024x50257, .i64⟩
  | 23 => ⟨S1x1024x50257, .i64⟩
  | 24 => ⟨S_, .i64⟩
  | 25 => ⟨S1x1024x50257, .i64⟩
  | 26 => ⟨S1x1024x50257, .i64⟩
  | 27 => ⟨S_, .i64⟩
  | 28 => ⟨S1x1024x50257, .i64⟩
  | 29 => ⟨S1x1024x50257, .i64⟩
  | 30 => ⟨S_, .i64⟩
  | 31 => ⟨S1x1024x50257, .i64⟩
  | 32 => ⟨S1x1024x50257, .i64⟩
  | 33 => ⟨S1x1024x50257, .i64⟩
  | 34 => ⟨S1x1024x50257, .i64⟩
  | 35 => ⟨S_, .i64⟩
  | 36 => ⟨S1x1024x50257, .i64⟩
  | 37 => ⟨S1x1024x50257, .i64⟩
  | 38 => ⟨S1x1024x50257, .i32⟩
  | 39 => ⟨S1x1024x50257, .i32⟩
  | 40 => ⟨S_, .i32⟩
  | 41 => ⟨S_, .i32⟩
  | 42 => ⟨S_, .i32⟩
  | 43 => ⟨S1x1024x50257, .i32⟩
  | 44 => ⟨S1x1024x50257, .i32⟩
  | 45 => ⟨S1x1024x50257, .i32⟩
  | 46 => ⟨S1x1024x50257, .i32⟩
  | 47 => ⟨S1x1024x50257, .i32⟩
  | 48 => ⟨S_, .i32⟩
  | 49 => ⟨S1x1024x50257, .i32⟩
  | 50 => ⟨S1x1024x50257, .i32⟩
  | 51 => ⟨S_, .i32⟩
  | 52 => ⟨S1x1024x50257, .i32⟩
  | 53 => ⟨S1x1024x50257, .i32⟩
  | 54 => ⟨S1x1024x50257, .i32⟩
  | 55 => ⟨S1x1024x50257, .i32⟩
  | 56 => ⟨S1x1024x50257, .i32⟩
  | 57 => ⟨S_, .i32⟩
  | 58 => ⟨S1x1024x50257, .i32⟩
  | 59 => ⟨S1x1024x50257, .i32⟩
  | 60 => ⟨S_, .i32⟩
  | 61 => ⟨S1x1024x50257, .i32⟩
  | 62 => ⟨S1x1024x50257, .i32⟩
  | 63 => ⟨S1x1024x50257, .i32⟩
  | 64 => ⟨S1x1024x50257, .i32⟩
  | 65 => ⟨S1x1024x50257, .i32⟩
  | 66 => ⟨S_, .i32⟩
  | 67 => ⟨S1x1024x50257, .i32⟩
  | 68 => ⟨S1x1024x50257, .i32⟩
  | 69 => ⟨S_, .i32⟩
  | 70 => ⟨S1x1024x50257, .i32⟩
  | 71 => ⟨S1x1024x50257, .i32⟩
  | 72 => ⟨S1x1024x50257, .i32⟩
  | 73 => ⟨S1x1024x50257, .i32⟩
  | 74 => ⟨S1x1024x50257, .i32⟩
  | 75 => ⟨S_, .i32⟩
  | 76 => ⟨S1x1024x50257, .i32⟩
  | 77 => ⟨S1x1024x50257, .i32⟩
  | 78 => ⟨S_, .i32⟩
  | 79 => ⟨S1x1024x50257, .i32⟩
  | 80 => ⟨S1x1024x50257, .i32⟩
  | 81 => ⟨S1x1024x50257, .i32⟩
  | 82 => ⟨S1x1024x50257, .i32⟩
  | 83 => ⟨S1x1024x50257, .i32⟩
  | 84 => ⟨S1x1024x50257, .i32⟩
  | 85 => ⟨S1x1024x50257, .i32⟩
  | 86 => ⟨S1x1024x50257, .i32⟩
  | 87 => ⟨S_, .i32⟩
  | 88 => ⟨S1x1024x50257, .i32⟩
  | 89 => ⟨S1x1024x50257, .i32⟩
  | 90 => ⟨S1x1024x50257, .i32⟩
  | 91 => ⟨S_, .i32⟩
  | 92 => ⟨S1x1024x50257, .i32⟩
  | 93 => ⟨S1x1024x50257, .i32⟩
  | 94 => ⟨S_, .i32⟩
  | 95 => ⟨S1x1024x50257, .i32⟩
  | 96 => ⟨S1x1024x50257, .i32⟩
  | 97 => ⟨S1x1024x50257, .i32⟩
  | 98 => ⟨S1x1024x50257, .i32⟩
  | 99 => ⟨S1x1024x50257, .i32⟩
  | 100 => ⟨S_, .i32⟩
  | 101 => ⟨S1x1024x50257, .i32⟩
  | 102 => ⟨S1x1024x50257, .i32⟩
  | 103 => ⟨S_, .i32⟩
  | 104 => ⟨S1x1024x50257, .i32⟩
  | 105 => ⟨S1x1024x50257, .i32⟩
  | 106 => ⟨S1x1024x50257, .i32⟩
  | 107 => ⟨S1x1024x50257, .i32⟩
  | 108 => ⟨S1x1024x50257, .i32⟩
  | 109 => ⟨S_, .i32⟩
  | 110 => ⟨S1x1024x50257, .i32⟩
  | 111 => ⟨S1x1024x50257, .i32⟩
  | 112 => ⟨S_, .i32⟩
  | 113 => ⟨S1x1024x50257, .i32⟩
  | 114 => ⟨S1x1024x50257, .i32⟩
  | 115 => ⟨S1x1024x50257, .i32⟩
  | 116 => ⟨S1x1024x50257, .i32⟩
  | 117 => ⟨S1x1024x50257, .i32⟩
  | 118 => ⟨S_, .i32⟩
  | 119 => ⟨S1x1024x50257, .i32⟩
  | 120 => ⟨S1x1024x50257, .i32⟩
  | 121 => ⟨S_, .i32⟩
  | 122 => ⟨S1x1024x50257, .i32⟩
  | 123 => ⟨S1x1024x50257, .i32⟩
  | 124 => ⟨S1x1024x50257, .i32⟩
  | 125 => ⟨S1x1024x50257, .i32⟩
  | 126 => ⟨S1x1024x50257, .i32⟩
  | 127 => ⟨S1x1024x50257, .i32⟩
  | _ => ⟨S1x1024x50257, .f32⟩

abbrev hbmTy0_1 (i : Nat) : BufTy := match i % 128 with
  | 0 => ⟨S1x1024x50257, .i32⟩
  | 1 => ⟨S1x1024x50257, .i32⟩
  | 2 => ⟨S_, .i32⟩
  | 3 => ⟨S1x1024x50257, .i32⟩
  | 4 => ⟨S1x1024x50257, .i32⟩
  | 5 => ⟨S1x1024x50257, .i32⟩
  | 6 => ⟨S_, .i32⟩
  | 7 => ⟨S1x1024x50257, .i32⟩
  | 8 => ⟨S1x1024x50257, .i32⟩
  | 9 => ⟨S_, .i32⟩
  | 10 => ⟨S1x1024x50257, .i32⟩
  | 11 => ⟨S1x1024x50257, .i32⟩
  | 12 => ⟨S1x1024x50257, .i32⟩
  | 13 => ⟨S1x1024x50257, .i32⟩
  | 14 => ⟨S1x1024x50257, .i32⟩
  | 15 => ⟨S_, .i32⟩
  | 16 => ⟨S1x1024x50257, .i32⟩
  | 17 => ⟨S1x1024x50257, .i32⟩
  | 18 => ⟨S_, .i32⟩
  | 19 => ⟨S1x1024x50257, .i32⟩
  | 20 => ⟨S1x1024x50257, .i32⟩
  | 21 => ⟨S1x1024x50257, .i32⟩
  | 22 => ⟨S1x1024x50257, .i32⟩
  | 23 => ⟨S1x1024x50257, .i32⟩
  | 24 => ⟨S_, .i32⟩
  | 25 => ⟨S1x1024x50257, .i32⟩
  | 26 => ⟨S1x1024x50257, .i32⟩
  | 27 => ⟨S_, .i32⟩
  | 28 => ⟨S1x1024x50257, .i32⟩
  | 29 => ⟨S1x1024x50257, .i32⟩
  | 30 => ⟨S1x1024x50257, .i32⟩
  | 31 => ⟨S1x1024x50257, .i32⟩
  | 32 => ⟨S1x1024x50257, .i32⟩
  | 33 => ⟨S_, .i32⟩
  | 34 => ⟨S1x1024x50257, .i32⟩
  | 35 => ⟨S1x1024x50257, .i32⟩
  | 36 => ⟨S_, .i32⟩
  | 37 => ⟨S1x1024x50257, .i32⟩
  | 38 => ⟨S1x1024x50257, .i32⟩
  | 39 => ⟨S1x1024x50257, .i32⟩
  | 40 => ⟨S1x1024x50257, .i32⟩
  | 41 => ⟨S1x1024x50257, .i32⟩
  | 42 => ⟨S1x1024x50257, .i32⟩
  | 43 => ⟨S1x1024x50257, .i32⟩
  | 44 => ⟨S1x1024x50257, .i32⟩
  | 45 => ⟨S_, .i32⟩
  | 46 => ⟨S1x1024x50257, .i32⟩
  | 47 => ⟨S1x1024x50257, .i32⟩
  | 48 => ⟨S1x1024x50257, .i32⟩
  | 49 => ⟨S_, .i32⟩
  | 50 => ⟨S1x1024x50257, .i32⟩
  | 51 => ⟨S1x1024x50257, .i32⟩
  | 52 => ⟨S_, .i32⟩
  | 53 => ⟨S1x1024x50257, .i32⟩
  | 54 => ⟨S1x1024x50257, .i32⟩
  | 55 => ⟨S1x1024x50257, .i32⟩
  | 56 => ⟨S1x1024x50257, .i32⟩
  | 57 => ⟨S1x1024x50257, .i32⟩
  | 58 => ⟨S_, .i32⟩
  | 59 => ⟨S1x1024x50257, .i32⟩
  | 60 => ⟨S1x1024x50257, .i32⟩
  | 61 => ⟨S_, .i32⟩
  | 62 => ⟨S1x1024x50257, .i32⟩
  | 63 => ⟨S1x1024x50257, .i32⟩
  | 64 => ⟨S1x1024x50257, .i32⟩
  | 65 => ⟨S1x1024x50257, .i32⟩
  | 66 => ⟨S1x1024x50257, .i32⟩
  | 67 => ⟨S_, .i32⟩
  | 68 => ⟨S1x1024x50257, .i32⟩
  | 69 => ⟨S1x1024x50257, .i32⟩
  | 70 => ⟨S_, .i32⟩
  | 71 => ⟨S1x1024x50257, .i32⟩
  | 72 => ⟨S1x1024x50257, .i32⟩
  | 73 => ⟨S1x1024x50257, .i32⟩
  | 74 => ⟨S1x1024x50257, .i32⟩
  | 75 => ⟨S1x1024x50257, .i32⟩
  | 76 => ⟨S_, .i32⟩
  | 77 => ⟨S1x1024x50257, .i32⟩
  | 78 => ⟨S1x1024x50257, .i32⟩
  | 79 => ⟨S_, .i32⟩
  | 80 => ⟨S1x1024x50257, .i32⟩
  | 81 => ⟨S1x1024x50257, .i32⟩
  | 82 => ⟨S1x1024x50257, .i32⟩
  | 83 => ⟨S1x1024x50257, .i32⟩
  | 84 => ⟨S1x1024x50257, .i32⟩
  | 85 => ⟨S1x1024x50257, .i32⟩
  | 86 => ⟨S1x1024x50257, .i32⟩
  | 87 => ⟨S1x1024x50257, .i32⟩
  | 88 => ⟨S_, .i32⟩
  | 89 => ⟨S1x1024x50257, .i32⟩
  | 90 => ⟨S1x1024x50257, .i32⟩
  | 91 => ⟨S1x1024x50257, .i32⟩
  | 92 => ⟨S_, .i32⟩
  | 93 => ⟨S1x1024x50257, .i32⟩
  | 94 => ⟨S1x1024x50257, .i32⟩
  | 95 => ⟨S_, .i32⟩
  | 96 => ⟨S1x1024x50257, .i32⟩
  | 97 => ⟨S1x1024x50257, .i32⟩
  | 98 => ⟨S1x1024x50257, .i32⟩
  | 99 => ⟨S1x1024x50257, .i32⟩
  | 100 => ⟨S1x1024x50257, .i32⟩
  | 101 => ⟨S_, .i32⟩
  | 102 => ⟨S1x1024x50257, .i32⟩
  | 103 => ⟨S1x1024x50257, .i32⟩
  | 104 => ⟨S_, .i32⟩
  | 105 => ⟨S1x1024x50257, .i32⟩
  | 106 => ⟨S1x1024x50257, .i32⟩
  | 107 => ⟨S1x1024x50257, .i32⟩
  | 108 => ⟨S1x1024x50257, .i32⟩
  | 109 => ⟨S1x1024x50257, .i32⟩
  | 110 => ⟨S_, .i32⟩
  | 111 => ⟨S1x1024x50257, .i32⟩
  | 112 => ⟨S1x1024x50257, .i32⟩
  | 113 => ⟨S_, .i32⟩
  | 114 => ⟨S1x1024x50257, .i32⟩
  | 115 => ⟨S1x1024x50257, .i32⟩
  | 116 => ⟨S1x1024x50257, .i32⟩
  | 117 => ⟨S1x1024x50257, .i32⟩
  | 118 => ⟨S1x1024x50257, .i32⟩
  | 119 => ⟨S_, .i32⟩
  | 120 => ⟨S1x1024x50257, .i32⟩
  | 121 => ⟨S1x1024x50257, .i32⟩
  | 122 => ⟨S_, .i32⟩
  | 123 => ⟨S1x1024x50257, .i32⟩
  | 124 => ⟨S1x1024x50257, .i32⟩
  | 125 => ⟨S1x1024x50257, .i32⟩
  | 126 => ⟨S1x1024x50257, .i32⟩
  | 127 => ⟨S1x1024x50257, .i32⟩
  | _ => ⟨S1x1024x50257, .f32⟩

abbrev hbmTy0_2 (i : Nat) : BufTy := match i % 128 with
  | 0 => ⟨S1x1024x50257, .i32⟩
  | 1 => ⟨S1x1024x50257, .i32⟩
  | 2 => ⟨S1x1024x50257, .i32⟩
  | 3 => ⟨S_, .i32⟩
  | 4 => ⟨S1x1024x50257, .i32⟩
  | 5 => ⟨S1x1024x50257, .i32⟩
  | 6 => ⟨S1x1024x50257, .i32⟩
  | 7 => ⟨S_, .i32⟩
  | 8 => ⟨S1x1024x50257, .i32⟩
  | 9 => ⟨S1x1024x50257, .i32⟩
  | 10 => ⟨S_, .i32⟩
  | 11 => ⟨S1x1024x50257, .i32⟩
  | 12 => ⟨S1x1024x50257, .i32⟩
  | 13 => ⟨S1x1024x50257, .f32⟩
  | 14 => ⟨S_, .f32⟩
  | 15 => ⟨S1x1024x50257, .f32⟩
  | 16 => ⟨S1x1024x50257, .f32⟩
  | 17 => ⟨S1x1x1, .f32⟩
  | 18 => ⟨S1x1024x50257, .f32⟩
  | 19 => ⟨S1x1024x50257, .f32⟩
  | 20 => ⟨S1x1024x50257, .f32⟩
  | 21 => ⟨S1x1024x50257, .f32⟩
  | 22 => ⟨S1x1024x50257, .f32⟩
  | 23 => ⟨S1x1024x50257, .f32⟩
  | 24 => ⟨S_, .f32⟩
  | 25 => ⟨S1x1024x50257, .f32⟩
  | 26 => ⟨S1x1024x50257, .f32⟩
  | 27 => ⟨S_, .f32⟩
  | 28 => ⟨S1x1024x50257, .f32⟩
  | 29 => ⟨S1x1024x50257, .f32⟩
  | 30 => ⟨S_, .f32⟩
  | 31 => ⟨S1x1024x50257, .f32⟩
  | 32 => ⟨S1x1024x50257, .f32⟩
  | 33 => ⟨S1x1024x50257, .f32⟩
  | 34 => ⟨S1x1024x50257, .f32⟩
  | 35 => ⟨S1x1024x50257, .f32⟩
  | 36 => ⟨S1x1024x50257, .f32⟩
  | 37 => ⟨S1x1024x50257, .f32⟩
  | 38 => ⟨S_, .f32⟩
  | 39 => ⟨S1x1024x50257, .f32⟩
  | 40 => ⟨S1x1024x50257, .f32⟩
  | 41 => ⟨S_, .f32⟩
  | 42 => ⟨S1x1024, .f32⟩
  | 43 => ⟨S_, .f32⟩
  | 44 => ⟨S1x1024, .f32⟩
  | 45 => ⟨S1x1024, .f32⟩
  | 46 => ⟨S1x1024x1, .f32⟩
  | 47 => ⟨S1x1024x50257, .f32⟩
  | 48 => ⟨S1x1024x50257, .f32⟩
  | 49 => ⟨S1x1024x50257, .f32⟩
  | 50 => ⟨S_, .f32⟩
  | 51 => ⟨S1x1024, .f32⟩
  | 52 => ⟨S1x1024x1, .f32⟩
  | 53 => ⟨S1x1024x50257, .f32⟩
  | 54 => ⟨S1x1024x50257, .f32⟩
  | 55 => ⟨S1x1024x50257, .i32⟩
  | 56 => ⟨S_, .f32⟩
  | 57 => ⟨S_, .i32⟩
  | 58 => ⟨S1x1024, .f32⟩
  | 59 => ⟨S1x1024, .i32⟩
  | 60 => ⟨S1x1024x1, .i32⟩
  | 61 => ⟨S1x1x50257, .i32⟩
  | 62 => ⟨S1x1024x50257, .i32⟩
  | 63 => ⟨S1x1024x50257, .i32⟩
  | 64 => ⟨S1x1024x50257, .i1⟩
  | 65 => ⟨S1x1024x50257, .f32⟩
  | 66 => ⟨S1x1024x50257, .f32⟩
  | 67 => ⟨S1x1024x50257, .f32⟩
  | 68 => ⟨S50257, .f32⟩
  | 69 => ⟨S1x1x50257, .f32⟩
  | 70 => ⟨S1x1024x50257, .f32⟩
  | 71 => ⟨S1x1024x50257, .f32⟩
  | 72 => ⟨S_, .f32⟩
  | 73 => ⟨S1x1024, .f32⟩
  | _ => ⟨S1x1024x50257, .f32⟩

abbrev hbmTy (i : Nat) : BufTy := match i / 128 with
  | 0 => hbmTy0_0 i
  | 1 => hbmTy0_1 i
  | 2 => hbmTy0_2 i
  | _ => ⟨S1x1024x50257, .f32⟩

abbrev bufTy : (tb : Table) → Fin (tcTables nBuf tb) → BufTy
  | .hbm, ⟨i, _⟩ => hbmTy i
  | _, _ => ⟨S1x1024x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c : Ref sig .tc := ⟨.hbm, 24, rfl⟩
abbrev main_call0_v11 : Ref sig .tc := ⟨.hbm, 25, rfl⟩
abbrev main_call0_v12 : Ref sig .tc := ⟨.hbm, 26, rfl⟩
abbrev main_call0_c_0 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c_2 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v23_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v23_1 : Ref sig .tc := ⟨.hbm, 261, rfl⟩
abbrev main_call0_v24 : Ref sig .tc := ⟨.hbm, 262, rfl⟩
abbrev main_call0_c_3 : Ref sig .tc := ⟨.hbm, 263, rfl⟩
abbrev main_call0_v25 : Ref sig .tc := ⟨.hbm, 264, rfl⟩
abbrev main_call0_v26 : Ref sig .tc := ⟨.hbm, 265, rfl⟩
abbrev main_call0_c_4 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_cst : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_call0_v34 : Ref sig .tc := ⟨.hbm, 275, rfl⟩
abbrev main_call0_v35 : Ref sig .tc := ⟨.hbm, 276, rfl⟩
abbrev main_call0_v36 : Ref sig .tc := ⟨.hbm, 277, rfl⟩
abbrev main_call0_v37 : Ref sig .tc := ⟨.hbm, 278, rfl⟩
abbrev main_v7 : Ref sig .tc := ⟨.hbm, 279, rfl⟩
abbrev main_cst_3 : Ref sig .tc := ⟨.hbm, 280, rfl⟩
abbrev main_v8 : Ref sig .tc := ⟨.hbm, 281, rfl⟩
abbrev main_v9 : Ref sig .tc := ⟨.hbm, 282, rfl⟩
abbrev main_cst_4 : Ref sig .tc := ⟨.hbm, 283, rfl⟩
abbrev main_v10 : Ref sig .tc := ⟨.hbm, 284, rfl⟩
abbrev main_v11 : Ref sig .tc := ⟨.hbm, 285, rfl⟩
abbrev main_cst_5 : Ref sig .tc := ⟨.hbm, 286, rfl⟩
abbrev main_v12 : Ref sig .tc := ⟨.hbm, 287, rfl⟩
abbrev main_v13 : Ref sig .tc := ⟨.hbm, 288, rfl⟩
abbrev main_v14 : Ref sig .tc := ⟨.hbm, 289, rfl⟩
abbrev main_v15 : Ref sig .tc := ⟨.hbm, 290, rfl⟩
abbrev main_v16 : Ref sig .tc := ⟨.hbm, 291, rfl⟩
abbrev main_v17 : Ref sig .tc := ⟨.hbm, 292, rfl⟩
abbrev main_v18 : Ref sig .tc := ⟨.hbm, 293, rfl⟩
abbrev main_cst_6 : Ref sig .tc := ⟨.hbm, 294, rfl⟩
abbrev main_v19 : Ref sig .tc := ⟨.hbm, 295, rfl⟩
abbrev main_v20 : Ref sig .tc := ⟨.hbm, 296, rfl⟩
abbrev main_cst_7 : Ref sig .tc := ⟨.hbm, 297, rfl⟩
abbrev main_v21 : Ref sig .tc := ⟨.hbm, 298, rfl⟩
abbrev main_cst_8 : Ref sig .tc := ⟨.hbm, 299, rfl⟩
abbrev main_v22 : Ref sig .tc := ⟨.hbm, 300, rfl⟩
abbrev main_v23 : Ref sig .tc := ⟨.hbm, 301, rfl⟩
abbrev main_v24 : Ref sig .tc := ⟨.hbm, 302, rfl⟩
abbrev main_v25 : Ref sig .tc := ⟨.hbm, 303, rfl⟩
abbrev main_v26 : Ref sig .tc := ⟨.hbm, 304, rfl⟩
abbrev main_v27 : Ref sig .tc := ⟨.hbm, 305, rfl⟩
abbrev main_cst_9 : Ref sig .tc := ⟨.hbm, 306, rfl⟩
abbrev main_v28 : Ref sig .tc := ⟨.hbm, 307, rfl⟩
abbrev main_v29 : Ref sig .tc := ⟨.hbm, 308, rfl⟩
abbrev main_v30 : Ref sig .tc := ⟨.hbm, 309, rfl⟩
abbrev main_v31 : Ref sig .tc := ⟨.hbm, 310, rfl⟩
abbrev main_call1_v0 : Ref sig .tc := ⟨.hbm, 311, rfl⟩
abbrev main_call1_cst : Ref sig .tc := ⟨.hbm, 312, rfl⟩
abbrev main_call1_c : Ref sig .tc := ⟨.hbm, 313, rfl⟩
abbrev main_call1_v1_0 : Ref sig .tc := ⟨.hbm, 314, rfl⟩
abbrev main_v32 : Ref sig .tc := ⟨.hbm, 315, rfl⟩
abbrev main_call2_v0 : Ref sig .tc := ⟨.hbm, 316, rfl⟩
abbrev main_call2_v1 : Ref sig .tc := ⟨.hbm, 317, rfl⟩
abbrev main_call2_v2 : Ref sig .tc := ⟨.hbm, 318, rfl⟩
abbrev main_call2_v3 : Ref sig .tc := ⟨.hbm, 319, rfl⟩
abbrev main_call2_v4 : Ref sig .tc := ⟨.hbm, 320, rfl⟩
abbrev main_v33 : Ref sig .tc := ⟨.hbm, 321, rfl⟩
abbrev main_v34 : Ref sig .tc := ⟨.hbm, 322, rfl⟩
abbrev main_v35 : Ref sig .tc := ⟨.hbm, 323, rfl⟩
abbrev main_v36 : Ref sig .tc := ⟨.hbm, 324, rfl⟩
abbrev main_v37 : Ref sig .tc := ⟨.hbm, 325, rfl⟩
abbrev main_v38 : Ref sig .tc := ⟨.hbm, 326, rfl⟩
abbrev main_v39 : Ref sig .tc := ⟨.hbm, 327, rfl⟩
abbrev main_cst_10 : Ref sig .tc := ⟨.hbm, 328, rfl⟩
abbrev main_v40 : Ref sig .tc := ⟨.hbm, 329, rfl⟩

abbrev nD : Nat := 1
abbrev τ : Topo := Topo.v7x

variable {F : FTy → Type} [FloatOps F]
-- ==== Proof.RefOps.lean ====
/-
  The reference program's host operations as lists of thirty, one after another, and the facts about them that a run of @main asks for:
  @main is the sequence of these operations, and each of them touches only the buffers of the one core.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v6`, named. It packs its operands into a list of dependent pairs
    whose shapes a later argument's type mentions, so `simp` cannot rewrite an operand where it stands; applied by
    name, the operands are plain arguments, which the window lemmas below rewrite before the name unfolds. -/
def fn_main_v6 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 329 (@main, which the printer did not cut). -/
abbrev ops_0 : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 (fn_main_v6 (F := F)),
    nullary main_cst (constant S_ .f32 0x00000000#32),
    nullary main_cst_2 (constant S_ .f32 0x3F800000#32),
    TRef.unary (TRef.of (T := ⟨S_, .f32⟩) main_cst) (TRef.of (T := ⟨S_, .f32⟩) main_call0_v0) id,
    TRef.unary (TRef.of (T := ⟨S_, .f32⟩) main_cst_2) (TRef.of (T := ⟨S_, .f32⟩) main_call0_v1) id,
    TRef.unary (TRef.of (T := ⟨S_, .f32⟩) main_call0_v0) (TRef.of (T := ⟨S1x1x1, .f32⟩) main_call0_v2) (broadcastInDim S1x1x1 ![] bcast_S_S1x1x1),
    TRef.unary (TRef.of (T := ⟨S_, .f32⟩) main_call0_v1) (TRef.of (T := ⟨S1x1x1, .f32⟩) main_call0_v3) (broadcastInDim S1x1x1 ![] bcast_S_S1x1x1),
    TRef.unary (TRef.of (T := ⟨S2, .i32⟩) main_v6) (TRef.of (T := ⟨S1, .i32⟩) main_call0_v4) (extractStridedSlice S1 ![0] · slices_S2_S1_0),
    TRef.reshape (TRef.of (T := ⟨S1, .i32⟩) main_call0_v4) (TRef.of (T := ⟨S_, .i32⟩) main_call0_v5) (rfl : (.i32 : EltTy) = .i32) shapeCasts_S1_S_,
    TRef.unary (TRef.of (T := ⟨S2, .i32⟩) main_v6) (TRef.of (T := ⟨S1, .i32⟩) main_call0_v6) (extractStridedSlice S1 ![1] · slices_S2_S1_1),
    TRef.reshape (TRef.of (T := ⟨S1, .i32⟩) main_call0_v6) (TRef.of (T := ⟨S_, .i32⟩) main_call0_v7) (rfl : (.i32 : EltTy) = .i32) shapeCasts_S1_S_,
    TRef.nullary (TRef.of (T := ⟨S1x1024x50257, .i64⟩) main_call0_v8) (iotaInDim S1x1024x50257 64 0),
    TRef.nullary (TRef.of (T := ⟨S1x1024x50257, .i64⟩) main_call0_v9) (iotaInDim S1x1024x50257 64 1),
    TRef.nullary (TRef.of (T := ⟨S1x1024x50257, .i64⟩) main_call0_v10) (iotaInDim S1x1024x50257 64 2),
    TRef.nullary (TRef.of (T := ⟨S_, .i64⟩) main_call0_c) (constantI S_ 64 51463168#64),
    TRef.unary (TRef.of (T := ⟨S_, .i64⟩) main_call0_c) (TRef.of (T := ⟨S1x1024x50257, .i64⟩) main_call0_v11) (broadcastInDim S1x1024x50257 ![] bcast_S_S1x1024x50257),
    TRef.binary (TRef.of (T := ⟨S1x1024x50257, .i64⟩) main_call0_v11) (TRef.of (T := ⟨S1x1024x50257, .i64⟩) main_call0_v8) (TRef.of (T := ⟨S1x1024x50257, .i64⟩) main_call0_v12) muli,
    TRef.nullary (TRef.of (T := ⟨S_, .i64⟩) main_call0_c_0) (constantI S_ 64 50257#64),
    TRef.unary (TRef.of (T := ⟨S_, .i64⟩) main_call0_c_0) (TRef.of (T := ⟨S1x1024x50257, .i64⟩) main_call0_v13) (broadcastInDim S1x1024x50257 ![] bcast_S_S1x1024x50257),
    TRef.binary (TRef.of (T := ⟨S1x1024x50257, .i64⟩) main_call0_v13) (TRef.of (T := ⟨S1x1024x50257, .i64⟩) main_call0_v9) (TRef.of (T := ⟨S1x1024x50257, .i64⟩) main_call0_v14) muli,
    TRef.nullary (TRef.of (T := ⟨S_, .i64⟩) main_call0_c_1) (constantI S_ 64 1#64) ]

/-- @main's operations 31 … 60 of 329 (@main, which the printer did not cut). -/
abbrev ops_1 : List (HloOp τ sig (Elt F)) :=
  [ TRef.unary (TRef.of (T := ⟨S_, .i64⟩) main_call0_c_1) (TRef.of (T := ⟨S1x1024x50257, .i64⟩) main_call0_v15) (broadcastInDim S1x1024x50257 ![] bcast_S_S1x1024x50257),
    TRef.binary (TRef.of (T := ⟨S1x1024x50257, .i64⟩) main_call0_v15) (TRef.of (T := ⟨S1x1024x50257, .i64⟩) main_call0_v10) (TRef.of (T := ⟨S1x1024x50257, .i64⟩) main_call0_v16) muli,
    TRef.binary (TRef.of (T := ⟨S1x1024x50257, .i64⟩) main_call0_v12) (TRef.of (T := ⟨S1x1024x50257, .i64⟩) main_call0_v14) (TRef.of (T := ⟨S1x1024x50257, .i64⟩) main_call0_v17) addi,
    TRef.binary (TRef.of (T := ⟨S1x1024x50257, .i64⟩) main_call0_v17) (TRef.of (T := ⟨S1x1024x50257, .i64⟩) main_call0_v16) (TRef.of (T := ⟨S1x1024x50257, .i64⟩) main_call0_v18) addi,
    TRef.nullary (TRef.of (T := ⟨S_, .i64⟩) main_call0_c_2) (constantI S_ 64 32#64),
    TRef.unary (TRef.of (T := ⟨S_, .i64⟩) main_call0_c_2) (TRef.of (T := ⟨S1x1024x50257, .i64⟩) main_call0_v19) (broadcastInDim S1x1024x50257 ![] bcast_S_S1x1024x50257),
    TRef.binary (TRef.of (T := ⟨S1x1024x50257, .i64⟩) main_call0_v18) (TRef.of (T := ⟨S1x1024x50257, .i64⟩) main_call0_v19) (TRef.of (T := ⟨S1x1024x50257, .i64⟩) main_call0_v20) Host.shrui,
    TRef.unary (TRef.of (T := ⟨S1x1024x50257, .i64⟩) main_call0_v18) (TRef.of (T := ⟨S1x1024x50257, .i32⟩) main_call0_v21) (trunci 32 · natLt_32_64),
    TRef.unary (TRef.of (T := ⟨S1x1024x50257, .i64⟩) main_call0_v20) (TRef.of (T := ⟨S1x1024x50257, .i32⟩) main_call0_v22) (trunci 32 · natLt_32_64),
    TRef.binary (TRef.of (T := ⟨S_, .i32⟩) main_call0_v5) (TRef.of (T := ⟨S_, .i32⟩) main_call0_v7) (TRef.of (T := ⟨S_, .i32⟩) main_call0_call0_v0) xori,
    TRef.nullary (TRef.of (T := ⟨S_, .i32⟩) main_call0_call0_c) (constantI S_ 32 466688986#32),
    TRef.binary (TRef.of (T := ⟨S_, .i32⟩) main_call0_call0_v0) (TRef.of (T := ⟨S_, .i32⟩) main_call0_call0_c) (TRef.of (T := ⟨S_, .i32⟩) main_call0_call0_v1) xori,
    TRef.unary (TRef.of (T := ⟨S_, .i32⟩) main_call0_v5) (TRef.of (T := ⟨S1x1024x50257, .i32⟩) main_call0_call0_v2) (broadcastInDim S1x1024x50257 ![] bcast_S_S1x1024x50257),
    TRef.binary (TRef.of (T := ⟨S1x1024x50257, .i32⟩) main_call0_v22) (TRef.of (T := ⟨S1x1024x50257, .i32⟩) main_call0_call0_v2) (TRef.of (T := ⟨S1x1024x50257, .i32⟩) main_call0_call0_v3) addi,
    TRef.unary (TRef.of (T := ⟨S_, .i32⟩) main_call0_v7) (TRef.of (T := ⟨S1x1024x50257, .i32⟩) main_call0_call0_v4) (broadcastInDim S1x1024x50257 ![] bcast_S_S1x1024x50257),
    TRef.binary (TRef.of (T := ⟨S1x1024x50257, .i32⟩) main_call0_v21) (TRef.of (T := ⟨S1x1024x50257, .i32⟩) main_call0_call0_v4) (TRef.of (T := ⟨S1x1024x50257, .i32⟩) main_call0_call0_v5) addi,
    TRef.binary (TRef.of (T := ⟨S1x1024x50257, .i32⟩) main_call0_call0_v3) (TRef.of (T := ⟨S1x1024x50257, .i32⟩) main_call0_call0_v5) (TRef.of (T := ⟨S1x1024x50257, .i32⟩) main_call0_call0_v6) addi,
    TRef.nullary (TRef.of (T := ⟨S_, .i32⟩) main_call0_call0_c_0) (constantI S_ 32 13#32),
    TRef.unary (TRef.of (T := ⟨S_, .i32⟩) main_call0_call0_c_0) (TRef.of (T := ⟨S1x1024x50257, .i32⟩) main_call0_call0_v7) (broadcastInDim S1x1024x50257 ![] bcast_S_S1x1024x50257),
    TRef.binary (TRef.of (T := ⟨S1x1024x50257, .i32⟩) main_call0_call0_v5) (TRef.of (T := ⟨S1x1024x50257, .i32⟩) main_call0_call0_v7) (TRef.of (T := ⟨S1x1024x50257, .i32⟩) main_call0_call0_v8) Host.shli,
    TRef.nullary (TRef.of (T := ⟨S_, .i32⟩) main_call0_call0_c_1) (constantI S_ 32 19#32),
    TRef.unary (TRef.of (T := ⟨S_, .i32⟩) main_call0_call0_c_1) (TRef.of (T := ⟨S1x1024x50257, .i32⟩) main_call0_call0_v9) (broadcastInDim S1x1024x50257 ![] bcast_S_S1x1024x50257),
    TRef.binary (TRef.of (T := ⟨S1x1024x50257, .i32⟩) main_call0_call0_v5) (TRef.of (T := ⟨S1x1024x50257, .i32⟩) main_call0_call0_v9) (TRef.of (T := ⟨S1x1024x50257, .i32⟩) main_call0_call0_v10) Host.shrui,
    TRef.binary (TRef.of (T := ⟨S1x1024x50257, .i32⟩) main_call0_call0_v8) (TRef.of (T := ⟨S1x1024x50257, .i32⟩) main_call0_call0_v10) (TRef.of (T := ⟨S1x1024x50257, .i32⟩) main_call0_call0_v11) ori,
    TRef.binary (TRef.of (T := ⟨S1x1024x50257, .i32⟩) main_call0_call0_v6) (TRef.of (T := ⟨S1x1024x50257, .i32⟩) main_call0_call0_v11) (TRef.of (T := ⟨S1x1024x50257, .i32⟩) main_call0_call0_v12) xori,
    TRef.binary (TRef.of (T := ⟨S1x1024x50257, .i32⟩) main_call0_call0_v6) (TRef.of (T := ⟨S1x1024x50257, .i32⟩) main_call0_call0_v12) (TRef.of (T := ⟨S1x1024x50257, .i32⟩) main_call0_call0_v13) addi,
    TRef.nullary (TRef.of (T := ⟨S_, .i32⟩) main_call0_call0_c_2) (constantI S_ 32 15#32),
    TRef.unary (TRef.of (T := ⟨S_, .i32⟩) main_call0_call0_c_2) (TRef.of (T := ⟨S1x1024x50257, .i32⟩) main_call0_call0_v14) (broadcastInDim S1x1024x50257 ![] bcast_S_S1x1024x50257),
    TRef.binary (TRef.of (T := ⟨S1x1024x50257, .i32⟩) main_call0_call0_v12) (TRef.of (T := ⟨S1x1024x50257, .i32⟩) main_call0_call0_v14) (TRef.of (T := ⟨S1x1024x50257, .i32⟩) main_call0_call0_v15) Host.shli,
    TRef.nullary (TRef.of (T := ⟨S_, .i32⟩) main_call0_call0_c_3) (constantI S_ 32 17#32) ]

/-- @main's operations 61 … 90 of 329 (@main, which the printer did not cut). -/
abbrev ops_2 : List (HloOp τ sig (Elt F)) :=
  [ TRef.unary (TRef.of (T := ⟨S_, .i32⟩) main_call0_call0_c_3) (TRef.of (T := ⟨S1x1024x50257, .i32⟩) main_call0_call0_v16) (broadcastInDim S1x1024x50257 ![] bcast_S_S1x1024x50257),
    TRef.binary (TRef.of (T := ⟨S1x1024x50257, .i32⟩) main_call0_call0_v12) (TRef.of (T := ⟨S1x1024x50257, .i32⟩) main_call0_call0_v16) (TRef.of (T := ⟨S1x1024x50257, .i32⟩) main_call0_call0_v17) Host.shrui,
    TRef.binary (TRef.of (T := ⟨S1x1024x50257, .i32⟩) main_call0_call0_v15) (TRef.of (T := ⟨S1x1024x50257, .i32⟩) main_call0_call0_v17) (TRef.of (T := ⟨S1x1024x50257, .i32⟩) main_call0_call0_v18) ori,
    TRef.binary (TRef.of (T := ⟨S1x1024x50257, .i32⟩) main_call0_call0_v13) (TRef.of (T := ⟨S1x1024x50257, .i32⟩) main_call0_call0_v18) (TRef.of (T := ⟨S1x1024x50257, .i32⟩) main_call0_call0_v19) xori,
    TRef.binary (TRef.of (T := ⟨S1x1024x50257, .i32⟩) main_call0_call0_v13) (TRef.of (T := ⟨S1x1024x50257, .i32⟩) main_call0_call0_v19) (TRef.of (T := ⟨S1x1024x50257, .i32⟩) main_call0_call0_v20) addi,
    TRef.nullary (TRef.of (T := ⟨S_, .i32⟩) main_call0_call0_c_4) (constantI S_ 32 26#32),
    TRef.unary (TRef.of (T := ⟨S_, .i32⟩) main_call0_call0_c_4) (TRef.of (T := ⟨S1x1024x50257, .i32⟩) main_call0_call0_v21) (broadcastInDim S1x1024x50257 ![] bcast_S_S1x1024x50257),
    TRef.binary (TRef.of (T := ⟨S1x1024x50257, .i32⟩) main_call0_call0_v19) (TRef.of (T := ⟨S1x1024x50257, .i32⟩) main_call0_call0_v21) (TRef.of (T := ⟨S1x1024x50257, .i32⟩) main_call0_call0_v22) Host.shli,
    TRef.nullary (TRef.of (T := ⟨S_, .i32⟩) main_call0_call0_c_5) (constantI S_ 32 6#32),
    TRef.unary (TRef.of (T := ⟨S_, .i32⟩) main_call0_call0_c_5) (TRef.of (T := ⟨S1x1024x50257, .i32⟩) main_call0_call0_v23) (broadcastInDim S1x1024x50257 ![] bcast_S_S1x1024x50257),
    TRef.binary (TRef.of (T := ⟨S1x1024x50257, .i32⟩) main_call0_call0_v19) (TRef.of (T := ⟨S1x1024x50257, .i32⟩) main_call0_call0_v23) (TRef.of (T := ⟨S1x1024x50257, .i32⟩) main_call0_call0_v24) Host.shrui,
    TRef.binary (TRef.of (T := ⟨S1x1024x50257, .i32⟩) main_call0_call0_v22) (TRef.of (T := ⟨S1x1024x50257, .i32⟩) main_call0_call0_v24) (TRef.of (T := ⟨S1x1024x50257, .i32⟩) main_call0_call0_v25) ori,
    TRef.binary (TRef.of (T := ⟨S1x1024x50257, .i32⟩) main_call0_call0_v20) (TRef.of (T := ⟨S1x1024x50257, .i32⟩) main_call0_call0_v25) (TRef.of (T := ⟨S1x1024x50257, .i32⟩) main_call0_call0_v26) xori,
    TRef.binary (TRef.of (T := ⟨S1x1024x50257, .i32⟩) main_call0_call0_v20) (TRef.of (T := ⟨S1x1024x50257, .i32⟩) main_call0_call0_v26) (TRef.of (T := ⟨S1x1024x50257, .i32⟩) main_call0_call0_v27) addi,
    TRef.nullary (TRef.of (T := ⟨S_, .i32⟩) main_call0_call0_c_6) (constantI S_ 32 6#32),
    TRef.unary (TRef.of (T := ⟨S_, .i32⟩) main_call0_call0_c_6) (TRef.of (T := ⟨S1x1024x50257, .i32⟩) main_call0_call0_v28) (broadcastInDim S1x1024x50257 ![] bcast_S_S1x1024x50257),
    TRef.binary (TRef.of (T := ⟨S1x1024x50257, .i32⟩) main_call0_call0_v26) (TRef.of (T := ⟨S1x1024x50257, .i32⟩) main_call0_call0_v28) (TRef.of (T := ⟨S1x1024x50257, .i32⟩) main_call0_call0_v29) Host.shli,
    TRef.nullary (TRef.of (T := ⟨S_, .i32⟩) main_call0_call0_c_7) (constantI S_ 32 26#32),
    TRef.unary (TRef.of (T := ⟨S_, .i32⟩) main_call0_call0_c_7) (TRef.of (T := ⟨S1x1024x50257, .i32⟩) main_call0_call0_v30) (broadcastInDim S1x1024x50257 ![] bcast_S_S1x1024x50257),
    TRef.binary (TRef.of (T := ⟨S1x1024x50257, .i32⟩) main_call0_call0_v26) (TRef.of (T := ⟨S1x1024x50257, .i32⟩) main_call0_call0_v30) (TRef.of (T := ⟨S1x1024x50257, .i32⟩) main_call0_call0_v31) Host.shrui,
    TRef.binary (TRef.of (T := ⟨S1x1024x50257, .i32⟩) main_call0_call0_v29) (TRef.of (T := ⟨S1x1024x50257, .i32⟩) main_call0_call0_v31) (TRef.of (T := ⟨S1x1024x50257, .i32⟩) main_call0_call0_v32) ori,
    TRef.binary (TRef.of (T := ⟨S1x1024x50257, .i32⟩) main_call0_call0_v27) (TRef.of (T := ⟨S1x1024x50257, .i32⟩) main_call0_call0_v32) (TRef.of (T := ⟨S1x1024x50257, .i32⟩) main_call0_call0_v33) xori,
    TRef.unary (TRef.of (T := ⟨S_, .i32⟩) main_call0_v7) (TRef.of (T := ⟨S1x1024x50257, .i32⟩) main_call0_call0_v34) (broadcastInDim S1x1024x50257 ![] bcast_S_S1x1024x50257),
    TRef.binary (TRef.of (T := ⟨S1x1024x50257, .i32⟩) main_call0_call0_v27) (TRef.of (T := ⟨S1x1024x50257, .i32⟩) main_call0_call0_v34) (TRef.of (T := ⟨S1x1024x50257, .i32⟩) main_call0_call0_v35) addi,
    TRef.unary (TRef.of (T := ⟨S_, .i32⟩) main_call0_call0_v1) (TRef.of (T := ⟨S1x1024x50257, .i32⟩) main_call0_call0_v36) (broadcastInDim S1x1024x50257 ![] bcast_S_S1x1024x50257),
    TRef.binary (TRef.of (T := ⟨S1x1024x50257, .i32⟩) main_call0_call0_v33) (TRef.of (T := ⟨S1x1024x50257, .i32⟩) main_call0_call0_v36) (TRef.of (T := ⟨S1x1024x50257, .i32⟩) main_call0_call0_v37) addi,
    TRef.nullary (TRef.of (T := ⟨S_, .i32⟩) main_call0_call0_c_8) (constantI S_ 32 1#32),
    TRef.unary (TRef.of (T := ⟨S_, .i32⟩) main_call0_call0_c_8) (TRef.of (T := ⟨S1x1024x50257, .i32⟩) main_call0_call0_v38) (broadcastInDim S1x1024x50257 ![] bcast_S_S1x1024x50257),
    TRef.binary (TRef.of (T := ⟨S1x1024x50257, .i32⟩) main_call0_call0_v37) (TRef.of (T := ⟨S1x1024x50257, .i32⟩) main_call0_call0_v38) (TRef.of (T := ⟨S1x1024x50257, .i32⟩) main_call0_call0_v39) addi,
    TRef.binary (TRef.of (T := ⟨S1x1024x50257, .i32⟩) main_call0_call0_v35) (TRef.of (T := ⟨S1x1024x50257, .i32⟩) main_call0_call0_v39) (TRef.of (T := ⟨S1x1024x50257, .i32⟩) main_call0_call0_v40) addi ]

/-- @main's operations 91 … 120 of 329 (@main, which the printer did not cut). -/
abbrev ops_3 : List (HloOp τ sig (Elt F)) :=
  [ TRef.nullary (TRef.of (T := ⟨S_, .i32⟩) main_call0_call0_c_9) (constantI S_ 32 17#32),
    TRef.unary (TRef.of (T := ⟨S_, .i32⟩) main_call0_call0_c_9) (TRef.of (T := ⟨S1x1024x50257, .i32⟩) main_call0_call0_v41) (broadcastInDim S1x1024x50257 ![] bcast_S_S1x1024x50257),
    TRef.binary (TRef.of (T := ⟨S1x1024x50257, .i32⟩) main_call0_call0_v39) (TRef.of (T := ⟨S1x1024x50257, .i32⟩) main_call0_call0_v41) (TRef.of (T := ⟨S1x1024x50257, .i32⟩) main_call0_call0_v42) Host.shli,
    TRef.nullary (TRef.of (T := ⟨S_, .i32⟩) main_call0_call0_c_10) (constantI S_ 32 15#32),
    TRef.unary (TRef.of (T := ⟨S_, .i32⟩) main_call0_call0_c_10) (TRef.of (T := ⟨S1x1024x50257, .i32⟩) main_call0_call0_v43) (broadcastInDim S1x1024x50257 ![] bcast_S_S1x1024x50257),
    TRef.binary (TRef.of (T := ⟨S1x1024x50257, .i32⟩) main_call0_call0_v39) (TRef.of (T := ⟨S1x1024x50257, .i32⟩) main_call0_call0_v43) (TRef.of (T := ⟨S1x1024x50257, .i32⟩) main_call0_call0_v44) Host.shrui,
    TRef.binary (TRef.of (T := ⟨S1x1024x50257, .i32⟩) main_call0_call0_v42) (TRef.of (T := ⟨S1x1024x50257, .i32⟩) main_call0_call0_v44) (TRef.of (T := ⟨S1x1024x50257, .i32⟩) main_call0_call0_v45) ori,
    TRef.binary (TRef.of (T := ⟨S1x1024x50257, .i32⟩) main_call0_call0_v40) (TRef.of (T := ⟨S1x1024x50257, .i32⟩) main_call0_call0_v45) (TRef.of (T := ⟨S1x1024x50257, .i32⟩) main_call0_call0_v46) xori,
    TRef.binary (TRef.of (T := ⟨S1x1024x50257, .i32⟩) main_call0_call0_v40) (TRef.of (T := ⟨S1x1024x50257, .i32⟩) main_call0_call0_v46) (TRef.of (T := ⟨S1x1024x50257, .i32⟩) main_call0_call0_v47) addi,
    TRef.nullary (TRef.of (T := ⟨S_, .i32⟩) main_call0_call0_c_11) (constantI S_ 32 29#32),
    TRef.unary (TRef.of (T := ⟨S_, .i32⟩) main_call0_call0_c_11) (TRef.of (T := ⟨S1x1024x50257, .i32⟩) main_call0_call0_v48) (broadcastInDim S1x1024x50257 ![] bcast_S_S1x1024x50257),
    TRef.binary (TRef.of (T := ⟨S1x1024x50257, .i32⟩) main_call0_call0_v46) (TRef.of (T := ⟨S1x1024x50257, .i32⟩) main_call0_call0_v48) (TRef.of (T := ⟨S1x1024x50257, .i32⟩) main_call0_call0_v49) Host.shli,
    TRef.nullary (TRef.of (T := ⟨S_, .i32⟩) main_call0_call0_c_12) (constantI S_ 32 3#32),
    TRef.unary (TRef.of (T := ⟨S_, .i32⟩) main_call0_call0_c_12) (TRef.of (T := ⟨S1x1024x50257, .i32⟩) main_call0_call0_v50) (broadcastInDim S1x1024x50257 ![] bcast_S_S1x1024x50257),
    TRef.binary (TRef.of (T := ⟨S1x1024x50257, .i32⟩) main_call0_call0_v46) (TRef.of (T := ⟨S1x1024x50257, .i32⟩) main_call0_call0_v50) (TRef.of (T := ⟨S1x1024x50257, .i32⟩) main_call0_call0_v51) Host.shrui,
    TRef.binary (TRef.of (T := ⟨S1x1024x50257, .i32⟩) main_call0_call0_v49) (TRef.of (T := ⟨S1x1024x50257, .i32⟩) main_call0_call0_v51) (TRef.of (T := ⟨S1x1024x50257, .i32⟩) main_call0_call0_v52) ori,
    TRef.binary (TRef.of (T := ⟨S1x1024x50257, .i32⟩) main_call0_call0_v47) (TRef.of (T := ⟨S1x1024x50257, .i32⟩) main_call0_call0_v52) (TRef.of (T := ⟨S1x1024x50257, .i32⟩) main_call0_call0_v53) xori,
    TRef.binary (TRef.of (T := ⟨S1x1024x50257, .i32⟩) main_call0_call0_v47) (TRef.of (T := ⟨S1x1024x50257, .i32⟩) main_call0_call0_v53) (TRef.of (T := ⟨S1x1024x50257, .i32⟩) main_call0_call0_v54) addi,
    TRef.nullary (TRef.of (T := ⟨S_, .i32⟩) main_call0_call0_c_13) (constantI S_ 32 16#32),
    TRef.unary (TRef.of (T := ⟨S_, .i32⟩) main_call0_call0_c_13) (TRef.of (T := ⟨S1x1024x50257, .i32⟩) main_call0_call0_v55) (broadcastInDim S1x1024x50257 ![] bcast_S_S1x1024x50257),
    TRef.binary (TRef.of (T := ⟨S1x1024x50257, .i32⟩) main_call0_call0_v53) (TRef.of (T := ⟨S1x1024x50257, .i32⟩) main_call0_call0_v55) (TRef.of (T := ⟨S1x1024x50257, .i32⟩) main_call0_call0_v56) Host.shli,
    TRef.nullary (TRef.of (T := ⟨S_, .i32⟩) main_call0_call0_c_14) (constantI S_ 32 16#32),
    TRef.unary (TRef.of (T := ⟨S_, .i32⟩) main_call0_call0_c_14) (TRef.of (T := ⟨S1x1024x50257, .i32⟩) main_call0_call0_v57) (broadcastInDim S1x1024x50257 ![] bcast_S_S1x1024x50257),
    TRef.binary (TRef.of (T := ⟨S1x1024x50257, .i32⟩) main_call0_call0_v53) (TRef.of (T := ⟨S1x1024x50257, .i32⟩) main_call0_call0_v57) (TRef.of (T := ⟨S1x1024x50257, .i32⟩) main_call0_call0_v58) Host.shrui,
    TRef.binary (TRef.of (T := ⟨S1x1024x50257, .i32⟩) main_call0_call0_v56) (TRef.of (T := ⟨S1x1024x50257, .i32⟩) main_call0_call0_v58) (TRef.of (T := ⟨S1x1024x50257, .i32⟩) main_call0_call0_v59) ori,
    TRef.binary (TRef.of (T := ⟨S1x1024x50257, .i32⟩) main_call0_call0_v54) (TRef.of (T := ⟨S1x1024x50257, .i32⟩) main_call0_call0_v59) (TRef.of (T := ⟨S1x1024x50257, .i32⟩) main_call0_call0_v60) xori,
    TRef.binary (TRef.of (T := ⟨S1x1024x50257, .i32⟩) main_call0_call0_v54) (TRef.of (T := ⟨S1x1024x50257, .i32⟩) main_call0_call0_v60) (TRef.of (T := ⟨S1x1024x50257, .i32⟩) main_call0_call0_v61) addi,
    TRef.nullary (TRef.of (T := ⟨S_, .i32⟩) main_call0_call0_c_15) (constantI S_ 32 24#32),
    TRef.unary (TRef.of (T := ⟨S_, .i32⟩) main_call0_call0_c_15) (TRef.of (T := ⟨S1x1024x50257, .i32⟩) main_call0_call0_v62) (broadcastInDim S1x1024x50257 ![] bcast_S_S1x1024x50257),
    TRef.binary (TRef.of (T := ⟨S1x1024x50257, .i32⟩) main_call0_call0_v60) (TRef.of (T := ⟨S1x1024x50257, .i32⟩) main_call0_call0_v62) (TRef.of (T := ⟨S1x1024x50257, .i32⟩) main_call0_call0_v63) Host.shli ]

/-- @main's operations 121 … 150 of 329 (@main, which the printer did not cut). -/
abbrev ops_4 : List (HloOp τ sig (Elt F)) :=
  [ TRef.nullary (TRef.of (T := ⟨S_, .i32⟩) main_call0_call0_c_16) (constantI S_ 32 8#32),
    TRef.unary (TRef.of (T := ⟨S_, .i32⟩) main_call0_call0_c_16) (TRef.of (T := ⟨S1x1024x50257, .i32⟩) main_call0_call0_v64) (broadcastInDim S1x1024x50257 ![] bcast_S_S1x1024x50257),
    TRef.binary (TRef.of (T := ⟨S1x1024x50257, .i32⟩) main_call0_call0_v60) (TRef.of (T := ⟨S1x1024x50257, .i32⟩) main_call0_call0_v64) (TRef.of (T := ⟨S1x1024x50257, .i32⟩) main_call0_call0_v65) Host.shrui,
    TRef.binary (TRef.of (T := ⟨S1x1024x50257, .i32⟩) main_call0_call0_v63) (TRef.of (T := ⟨S1x1024x50257, .i32⟩) main_call0_call0_v65) (TRef.of (T := ⟨S1x1024x50257, .i32⟩) main_call0_call0_v66) ori,
    TRef.binary (TRef.of (T := ⟨S1x1024x50257, .i32⟩) main_call0_call0_v61) (TRef.of (T := ⟨S1x1024x50257, .i32⟩) main_call0_call0_v66) (TRef.of (T := ⟨S1x1024x50257, .i32⟩) main_call0_call0_v67) xori,
    TRef.unary (TRef.of (T := ⟨S_, .i32⟩) main_call0_call0_v1) (TRef.of (T := ⟨S1x1024x50257, .i32⟩) main_call0_call0_v68) (broadcastInDim S1x1024x50257 ![] bcast_S_S1x1024x50257),
    TRef.binary (TRef.of (T := ⟨S1x1024x50257, .i32⟩) main_call0_call0_v61) (TRef.of (T := ⟨S1x1024x50257, .i32⟩) main_call0_call0_v68) (TRef.of (T := ⟨S1x1024x50257, .i32⟩) main_call0_call0_v69) addi,
    TRef.unary (TRef.of (T := ⟨S_, .i32⟩) main_call0_v5) (TRef.of (T := ⟨S1x1024x50257, .i32⟩) main_call0_call0_v70) (broadcastInDim S1x1024x50257 ![] bcast_S_S1x1024x50257),
    TRef.binary (TRef.of (T := ⟨S1x1024x50257, .i32⟩) main_call0_call0_v67) (TRef.of (T := ⟨S1x1024x50257, .i32⟩) main_call0_call0_v70) (TRef.of (T := ⟨S1x1024x50257, .i32⟩) main_call0_call0_v71) addi,
    TRef.nullary (TRef.of (T := ⟨S_, .i32⟩) main_call0_call0_c_17) (constantI S_ 32 2#32),
    TRef.unary (TRef.of (T := ⟨S_, .i32⟩) main_call0_call0_c_17) (TRef.of (T := ⟨S1x1024x50257, .i32⟩) main_call0_call0_v72) (broadcastInDim S1x1024x50257 ![] bcast_S_S1x1024x50257),
    TRef.binary (TRef.of (T := ⟨S1x1024x50257, .i32⟩) main_call0_call0_v71) (TRef.of (T := ⟨S1x1024x50257, .i32⟩) main_call0_call0_v72) (TRef.of (T := ⟨S1x1024x50257, .i32⟩) main_call0_call0_v73) addi,
    TRef.binary (TRef.of (T := ⟨S1x1024x50257, .i32⟩) main_call0_call0_v69) (TRef.of (T := ⟨S1x1024x50257, .i32⟩) main_call0_call0_v73) (TRef.of (T := ⟨S1x1024x50257, .i32⟩) main_call0_call0_v74) addi,
    TRef.nullary (TRef.of (T := ⟨S_, .i32⟩) main_call0_call0_c_18) (constantI S_ 32 13#32),
    TRef.unary (TRef.of (T := ⟨S_, .i32⟩) main_call0_call0_c_18) (TRef.of (T := ⟨S1x1024x50257, .i32⟩) main_call0_call0_v75) (broadcastInDim S1x1024x50257 ![] bcast_S_S1x1024x50257),
    TRef.binary (TRef.of (T := ⟨S1x1024x50257, .i32⟩) main_call0_call0_v73) (TRef.of (T := ⟨S1x1024x50257, .i32⟩) main_call0_call0_v75) (TRef.of (T := ⟨S1x1024x50257, .i32⟩) main_call0_call0_v76) Host.shli,
    TRef.nullary (TRef.of (T := ⟨S_, .i32⟩) main_call0_call0_c_19) (constantI S_ 32 19#32),
    TRef.unary (TRef.of (T := ⟨S_, .i32⟩) main_call0_call0_c_19) (TRef.of (T := ⟨S1x1024x50257, .i32⟩) main_call0_call0_v77) (broadcastInDim S1x1024x50257 ![] bcast_S_S1x1024x50257),
    TRef.binary (TRef.of (T := ⟨S1x1024x50257, .i32⟩) main_call0_call0_v73) (TRef.of (T := ⟨S1x1024x50257, .i32⟩) main_call0_call0_v77) (TRef.of (T := ⟨S1x1024x50257, .i32⟩) main_call0_call0_v78) Host.shrui,
    TRef.binary (TRef.of (T := ⟨S1x1024x50257, .i32⟩) main_call0_call0_v76) (TRef.of (T := ⟨S1x1024x50257, .i32⟩) main_call0_call0_v78) (TRef.of (T := ⟨S1x1024x50257, .i32⟩) main_call0_call0_v79) ori,
    TRef.binary (TRef.of (T := ⟨S1x1024x50257, .i32⟩) main_call0_call0_v74) (TRef.of (T := ⟨S1x1024x50257, .i32⟩) main_call0_call0_v79) (TRef.of (T := ⟨S1x1024x50257, .i32⟩) main_call0_call0_v80) xori,
    TRef.binary (TRef.of (T := ⟨S1x1024x50257, .i32⟩) main_call0_call0_v74) (TRef.of (T := ⟨S1x1024x50257, .i32⟩) main_call0_call0_v80) (TRef.of (T := ⟨S1x1024x50257, .i32⟩) main_call0_call0_v81) addi,
    TRef.nullary (TRef.of (T := ⟨S_, .i32⟩) main_call0_call0_c_20) (constantI S_ 32 15#32),
    TRef.unary (TRef.of (T := ⟨S_, .i32⟩) main_call0_call0_c_20) (TRef.of (T := ⟨S1x1024x50257, .i32⟩) main_call0_call0_v82) (broadcastInDim S1x1024x50257 ![] bcast_S_S1x1024x50257),
    TRef.binary (TRef.of (T := ⟨S1x1024x50257, .i32⟩) main_call0_call0_v80) (TRef.of (T := ⟨S1x1024x50257, .i32⟩) main_call0_call0_v82) (TRef.of (T := ⟨S1x1024x50257, .i32⟩) main_call0_call0_v83) Host.shli,
    TRef.nullary (TRef.of (T := ⟨S_, .i32⟩) main_call0_call0_c_21) (constantI S_ 32 17#32),
    TRef.unary (TRef.of (T := ⟨S_, .i32⟩) main_call0_call0_c_21) (TRef.of (T := ⟨S1x1024x50257, .i32⟩) main_call0_call0_v84) (broadcastInDim S1x1024x50257 ![] bcast_S_S1x1024x50257),
    TRef.binary (TRef.of (T := ⟨S1x1024x50257, .i32⟩) main_call0_call0_v80) (TRef.of (T := ⟨S1x1024x50257, .i32⟩) main_call0_call0_v84) (TRef.of (T := ⟨S1x1024x50257, .i32⟩) main_call0_call0_v85) Host.shrui,
    TRef.binary (TRef.of (T := ⟨S1x1024x50257, .i32⟩) main_call0_call0_v83) (TRef.of (T := ⟨S1x1024x50257, .i32⟩) main_call0_call0_v85) (TRef.of (T := ⟨S1x1024x50257, .i32⟩) main_call0_call0_v86) ori,
    TRef.binary (TRef.of (T := ⟨S1x1024x50257, .i32⟩) main_call0_call0_v81) (TRef.of (T := ⟨S1x1024x50257, .i32⟩) main_call0_call0_v86) (TRef.of (T := ⟨S1x1024x50257, .i32⟩) main_call0_call0_v87) xori ]

/-- @main's operations 151 … 180 of 329 (@main, which the printer did not cut). -/
abbrev ops_5 : List (HloOp τ sig (Elt F)) :=
  [ TRef.binary (TRef.of (T := ⟨S1x1024x50257, .i32⟩) main_call0_call0_v81) (TRef.of (T := ⟨S1x1024x50257, .i32⟩) main_call0_call0_v87) (TRef.of (T := ⟨S1x1024x50257, .i32⟩) main_call0_call0_v88) addi,
    TRef.nullary (TRef.of (T := ⟨S_, .i32⟩) main_call0_call0_c_22) (constantI S_ 32 26#32),
    TRef.unary (TRef.of (T := ⟨S_, .i32⟩) main_call0_call0_c_22) (TRef.of (T := ⟨S1x1024x50257, .i32⟩) main_call0_call0_v89) (broadcastInDim S1x1024x50257 ![] bcast_S_S1x1024x50257),
    TRef.binary (TRef.of (T := ⟨S1x1024x50257, .i32⟩) main_call0_call0_v87) (TRef.of (T := ⟨S1x1024x50257, .i32⟩) main_call0_call0_v89) (TRef.of (T := ⟨S1x1024x50257, .i32⟩) main_call0_call0_v90) Host.shli,
    TRef.nullary (TRef.of (T := ⟨S_, .i32⟩) main_call0_call0_c_23) (constantI S_ 32 6#32),
    TRef.unary (TRef.of (T := ⟨S_, .i32⟩) main_call0_call0_c_23) (TRef.of (T := ⟨S1x1024x50257, .i32⟩) main_call0_call0_v91) (broadcastInDim S1x1024x50257 ![] bcast_S_S1x1024x50257),
    TRef.binary (TRef.of (T := ⟨S1x1024x50257, .i32⟩) main_call0_call0_v87) (TRef.of (T := ⟨S1x1024x50257, .i32⟩) main_call0_call0_v91) (TRef.of (T := ⟨S1x1024x50257, .i32⟩) main_call0_call0_v92) Host.shrui,
    TRef.binary (TRef.of (T := ⟨S1x1024x50257, .i32⟩) main_call0_call0_v90) (TRef.of (T := ⟨S1x1024x50257, .i32⟩) main_call0_call0_v92) (TRef.of (T := ⟨S1x1024x50257, .i32⟩) main_call0_call0_v93) ori,
    TRef.binary (TRef.of (T := ⟨S1x1024x50257, .i32⟩) main_call0_call0_v88) (TRef.of (T := ⟨S1x1024x50257, .i32⟩) main_call0_call0_v93) (TRef.of (T := ⟨S1x1024x50257, .i32⟩) main_call0_call0_v94) xori,
    TRef.binary (TRef.of (T := ⟨S1x1024x50257, .i32⟩) main_call0_call0_v88) (TRef.of (T := ⟨S1x1024x50257, .i32⟩) main_call0_call0_v94) (TRef.of (T := ⟨S1x1024x50257, .i32⟩) main_call0_call0_v95) addi,
    TRef.nullary (TRef.of (T := ⟨S_, .i32⟩) main_call0_call0_c_24) (constantI S_ 32 6#32),
    TRef.unary (TRef.of (T := ⟨S_, .i32⟩) main_call0_call0_c_24) (TRef.of (T := ⟨S1x1024x50257, .i32⟩) main_call0_call0_v96) (broadcastInDim S1x1024x50257 ![] bcast_S_S1x1024x50257),
    TRef.binary (TRef.of (T := ⟨S1x1024x50257, .i32⟩) main_call0_call0_v94) (TRef.of (T := ⟨S1x1024x50257, .i32⟩) main_call0_call0_v96) (TRef.of (T := ⟨S1x1024x50257, .i32⟩) main_call0_call0_v97) Host.shli,
    TRef.nullary (TRef.of (T := ⟨S_, .i32⟩) main_call0_call0_c_25) (constantI S_ 32 26#32),
    TRef.unary (TRef.of (T := ⟨S_, .i32⟩) main_call0_call0_c_25) (TRef.of (T := ⟨S1x1024x50257, .i32⟩) main_call0_call0_v98) (broadcastInDim S1x1024x50257 ![] bcast_S_S1x1024x50257),
    TRef.binary (TRef.of (T := ⟨S1x1024x50257, .i32⟩) main_call0_call0_v94) (TRef.of (T := ⟨S1x1024x50257, .i32⟩) main_call0_call0_v98) (TRef.of (T := ⟨S1x1024x50257, .i32⟩) main_call0_call0_v99) Host.shrui,
    TRef.binary (TRef.of (T := ⟨S1x1024x50257, .i32⟩) main_call0_call0_v97) (TRef.of (T := ⟨S1x1024x50257, .i32⟩) main_call0_call0_v99) (TRef.of (T := ⟨S1x1024x50257, .i32⟩) main_call0_call0_v100) ori,
    TRef.binary (TRef.of (T := ⟨S1x1024x50257, .i32⟩) main_call0_call0_v95) (TRef.of (T := ⟨S1x1024x50257, .i32⟩) main_call0_call0_v100) (TRef.of (T := ⟨S1x1024x50257, .i32⟩) main_call0_call0_v101) xori,
    TRef.unary (TRef.of (T := ⟨S_, .i32⟩) main_call0_v5) (TRef.of (T := ⟨S1x1024x50257, .i32⟩) main_call0_call0_v102) (broadcastInDim S1x1024x50257 ![] bcast_S_S1x1024x50257),
    TRef.binary (TRef.of (T := ⟨S1x1024x50257, .i32⟩) main_call0_call0_v95) (TRef.of (T := ⟨S1x1024x50257, .i32⟩) main_call0_call0_v102) (TRef.of (T := ⟨S1x1024x50257, .i32⟩) main_call0_call0_v103) addi,
    TRef.unary (TRef.of (T := ⟨S_, .i32⟩) main_call0_v7) (TRef.of (T := ⟨S1x1024x50257, .i32⟩) main_call0_call0_v104) (broadcastInDim S1x1024x50257 ![] bcast_S_S1x1024x50257),
    TRef.binary (TRef.of (T := ⟨S1x1024x50257, .i32⟩) main_call0_call0_v101) (TRef.of (T := ⟨S1x1024x50257, .i32⟩) main_call0_call0_v104) (TRef.of (T := ⟨S1x1024x50257, .i32⟩) main_call0_call0_v105) addi,
    TRef.nullary (TRef.of (T := ⟨S_, .i32⟩) main_call0_call0_c_26) (constantI S_ 32 3#32),
    TRef.unary (TRef.of (T := ⟨S_, .i32⟩) main_call0_call0_c_26) (TRef.of (T := ⟨S1x1024x50257, .i32⟩) main_call0_call0_v106) (broadcastInDim S1x1024x50257 ![] bcast_S_S1x1024x50257),
    TRef.binary (TRef.of (T := ⟨S1x1024x50257, .i32⟩) main_call0_call0_v105) (TRef.of (T := ⟨S1x1024x50257, .i32⟩) main_call0_call0_v106) (TRef.of (T := ⟨S1x1024x50257, .i32⟩) main_call0_call0_v107) addi,
    TRef.binary (TRef.of (T := ⟨S1x1024x50257, .i32⟩) main_call0_call0_v103) (TRef.of (T := ⟨S1x1024x50257, .i32⟩) main_call0_call0_v107) (TRef.of (T := ⟨S1x1024x50257, .i32⟩) main_call0_call0_v108) addi,
    TRef.nullary (TRef.of (T := ⟨S_, .i32⟩) main_call0_call0_c_27) (constantI S_ 32 17#32),
    TRef.unary (TRef.of (T := ⟨S_, .i32⟩) main_call0_call0_c_27) (TRef.of (T := ⟨S1x1024x50257, .i32⟩) main_call0_call0_v109) (broadcastInDim S1x1024x50257 ![] bcast_S_S1x1024x50257),
    TRef.binary (TRef.of (T := ⟨S1x1024x50257, .i32⟩) main_call0_call0_v107) (TRef.of (T := ⟨S1x1024x50257, .i32⟩) main_call0_call0_v109) (TRef.of (T := ⟨S1x1024x50257, .i32⟩) main_call0_call0_v110) Host.shli,
    TRef.nullary (TRef.of (T := ⟨S_, .i32⟩) main_call0_call0_c_28) (constantI S_ 32 15#32) ]

/-- @main's operations 181 … 210 of 329 (@main, which the printer did not cut). -/
abbrev ops_6 : List (HloOp τ sig (Elt F)) :=
  [ TRef.unary (TRef.of (T := ⟨S_, .i32⟩) main_call0_call0_c_28) (TRef.of (T := ⟨S1x1024x50257, .i32⟩) main_call0_call0_v111) (broadcastInDim S1x1024x50257 ![] bcast_S_S1x1024x50257),
    TRef.binary (TRef.of (T := ⟨S1x1024x50257, .i32⟩) main_call0_call0_v107) (TRef.of (T := ⟨S1x1024x50257, .i32⟩) main_call0_call0_v111) (TRef.of (T := ⟨S1x1024x50257, .i32⟩) main_call0_call0_v112) Host.shrui,
    TRef.binary (TRef.of (T := ⟨S1x1024x50257, .i32⟩) main_call0_call0_v110) (TRef.of (T := ⟨S1x1024x50257, .i32⟩) main_call0_call0_v112) (TRef.of (T := ⟨S1x1024x50257, .i32⟩) main_call0_call0_v113) ori,
    TRef.binary (TRef.of (T := ⟨S1x1024x50257, .i32⟩) main_call0_call0_v108) (TRef.of (T := ⟨S1x1024x50257, .i32⟩) main_call0_call0_v113) (TRef.of (T := ⟨S1x1024x50257, .i32⟩) main_call0_call0_v114) xori,
    TRef.binary (TRef.of (T := ⟨S1x1024x50257, .i32⟩) main_call0_call0_v108) (TRef.of (T := ⟨S1x1024x50257, .i32⟩) main_call0_call0_v114) (TRef.of (T := ⟨S1x1024x50257, .i32⟩) main_call0_call0_v115) addi,
    TRef.nullary (TRef.of (T := ⟨S_, .i32⟩) main_call0_call0_c_29) (constantI S_ 32 29#32),
    TRef.unary (TRef.of (T := ⟨S_, .i32⟩) main_call0_call0_c_29) (TRef.of (T := ⟨S1x1024x50257, .i32⟩) main_call0_call0_v116) (broadcastInDim S1x1024x50257 ![] bcast_S_S1x1024x50257),
    TRef.binary (TRef.of (T := ⟨S1x1024x50257, .i32⟩) main_call0_call0_v114) (TRef.of (T := ⟨S1x1024x50257, .i32⟩) main_call0_call0_v116) (TRef.of (T := ⟨S1x1024x50257, .i32⟩) main_call0_call0_v117) Host.shli,
    TRef.nullary (TRef.of (T := ⟨S_, .i32⟩) main_call0_call0_c_30) (constantI S_ 32 3#32),
    TRef.unary (TRef.of (T := ⟨S_, .i32⟩) main_call0_call0_c_30) (TRef.of (T := ⟨S1x1024x50257, .i32⟩) main_call0_call0_v118) (broadcastInDim S1x1024x50257 ![] bcast_S_S1x1024x50257),
    TRef.binary (TRef.of (T := ⟨S1x1024x50257, .i32⟩) main_call0_call0_v114) (TRef.of (T := ⟨S1x1024x50257, .i32⟩) main_call0_call0_v118) (TRef.of (T := ⟨S1x1024x50257, .i32⟩) main_call0_call0_v119) Host.shrui,
    TRef.binary (TRef.of (T := ⟨S1x1024x50257, .i32⟩) main_call0_call0_v117) (TRef.of (T := ⟨S1x1024x50257, .i32⟩) main_call0_call0_v119) (TRef.of (T := ⟨S1x1024x50257, .i32⟩) main_call0_call0_v120) ori,
    TRef.binary (TRef.of (T := ⟨S1x1024x50257, .i32⟩) main_call0_call0_v115) (TRef.of (T := ⟨S1x1024x50257, .i32⟩) main_call0_call0_v120) (TRef.of (T := ⟨S1x1024x50257, .i32⟩) main_call0_call0_v121) xori,
    TRef.binary (TRef.of (T := ⟨S1x1024x50257, .i32⟩) main_call0_call0_v115) (TRef.of (T := ⟨S1x1024x50257, .i32⟩) main_call0_call0_v121) (TRef.of (T := ⟨S1x1024x50257, .i32⟩) main_call0_call0_v122) addi,
    TRef.nullary (TRef.of (T := ⟨S_, .i32⟩) main_call0_call0_c_31) (constantI S_ 32 16#32),
    TRef.unary (TRef.of (T := ⟨S_, .i32⟩) main_call0_call0_c_31) (TRef.of (T := ⟨S1x1024x50257, .i32⟩) main_call0_call0_v123) (broadcastInDim S1x1024x50257 ![] bcast_S_S1x1024x50257),
    TRef.binary (TRef.of (T := ⟨S1x1024x50257, .i32⟩) main_call0_call0_v121) (TRef.of (T := ⟨S1x1024x50257, .i32⟩) main_call0_call0_v123) (TRef.of (T := ⟨S1x1024x50257, .i32⟩) main_call0_call0_v124) Host.shli,
    TRef.nullary (TRef.of (T := ⟨S_, .i32⟩) main_call0_call0_c_32) (constantI S_ 32 16#32),
    TRef.unary (TRef.of (T := ⟨S_, .i32⟩) main_call0_call0_c_32) (TRef.of (T := ⟨S1x1024x50257, .i32⟩) main_call0_call0_v125) (broadcastInDim S1x1024x50257 ![] bcast_S_S1x1024x50257),
    TRef.binary (TRef.of (T := ⟨S1x1024x50257, .i32⟩) main_call0_call0_v121) (TRef.of (T := ⟨S1x1024x50257, .i32⟩) main_call0_call0_v125) (TRef.of (T := ⟨S1x1024x50257, .i32⟩) main_call0_call0_v126) Host.shrui,
    TRef.binary (TRef.of (T := ⟨S1x1024x50257, .i32⟩) main_call0_call0_v124) (TRef.of (T := ⟨S1x1024x50257, .i32⟩) main_call0_call0_v126) (TRef.of (T := ⟨S1x1024x50257, .i32⟩) main_call0_call0_v127) ori,
    TRef.binary (TRef.of (T := ⟨S1x1024x50257, .i32⟩) main_call0_call0_v122) (TRef.of (T := ⟨S1x1024x50257, .i32⟩) main_call0_call0_v127) (TRef.of (T := ⟨S1x1024x50257, .i32⟩) main_call0_call0_v128) xori,
    TRef.binary (TRef.of (T := ⟨S1x1024x50257, .i32⟩) main_call0_call0_v122) (TRef.of (T := ⟨S1x1024x50257, .i32⟩) main_call0_call0_v128) (TRef.of (T := ⟨S1x1024x50257, .i32⟩) main_call0_call0_v129) addi,
    TRef.nullary (TRef.of (T := ⟨S_, .i32⟩) main_call0_call0_c_33) (constantI S_ 32 24#32),
    TRef.unary (TRef.of (T := ⟨S_, .i32⟩) main_call0_call0_c_33) (TRef.of (T := ⟨S1x1024x50257, .i32⟩) main_call0_call0_v130) (broadcastInDim S1x1024x50257 ![] bcast_S_S1x1024x50257),
    TRef.binary (TRef.of (T := ⟨S1x1024x50257, .i32⟩) main_call0_call0_v128) (TRef.of (T := ⟨S1x1024x50257, .i32⟩) main_call0_call0_v130) (TRef.of (T := ⟨S1x1024x50257, .i32⟩) main_call0_call0_v131) Host.shli,
    TRef.nullary (TRef.of (T := ⟨S_, .i32⟩) main_call0_call0_c_34) (constantI S_ 32 8#32),
    TRef.unary (TRef.of (T := ⟨S_, .i32⟩) main_call0_call0_c_34) (TRef.of (T := ⟨S1x1024x50257, .i32⟩) main_call0_call0_v132) (broadcastInDim S1x1024x50257 ![] bcast_S_S1x1024x50257),
    TRef.binary (TRef.of (T := ⟨S1x1024x50257, .i32⟩) main_call0_call0_v128) (TRef.of (T := ⟨S1x1024x50257, .i32⟩) main_call0_call0_v132) (TRef.of (T := ⟨S1x1024x50257, .i32⟩) main_call0_call0_v133) Host.shrui,
    TRef.binary (TRef.of (T := ⟨S1x1024x50257, .i32⟩) main_call0_call0_v131) (TRef.of (T := ⟨S1x1024x50257, .i32⟩) main_call0_call0_v133) (TRef.of (T := ⟨S1x1024x50257, .i32⟩) main_call0_call0_v134) ori ]

/-- @main's operations 211 … 240 of 329 (@main, which the printer did not cut). -/
abbrev ops_7 : List (HloOp τ sig (Elt F)) :=
  [ TRef.binary (TRef.of (T := ⟨S1x1024x50257, .i32⟩) main_call0_call0_v129) (TRef.of (T := ⟨S1x1024x50257, .i32⟩) main_call0_call0_v134) (TRef.of (T := ⟨S1x1024x50257, .i32⟩) main_call0_call0_v135) xori,
    TRef.unary (TRef.of (T := ⟨S_, .i32⟩) main_call0_v7) (TRef.of (T := ⟨S1x1024x50257, .i32⟩) main_call0_call0_v136) (broadcastInDim S1x1024x50257 ![] bcast_S_S1x1024x50257),
    TRef.binary (TRef.of (T := ⟨S1x1024x50257, .i32⟩) main_call0_call0_v129) (TRef.of (T := ⟨S1x1024x50257, .i32⟩) main_call0_call0_v136) (TRef.of (T := ⟨S1x1024x50257, .i32⟩) main_call0_call0_v137) addi,
    TRef.unary (TRef.of (T := ⟨S_, .i32⟩) main_call0_call0_v1) (TRef.of (T := ⟨S1x1024x50257, .i32⟩) main_call0_call0_v138) (broadcastInDim S1x1024x50257 ![] bcast_S_S1x1024x50257),
    TRef.binary (TRef.of (T := ⟨S1x1024x50257, .i32⟩) main_call0_call0_v135) (TRef.of (T := ⟨S1x1024x50257, .i32⟩) main_call0_call0_v138) (TRef.of (T := ⟨S1x1024x50257, .i32⟩) main_call0_call0_v139) addi,
    TRef.nullary (TRef.of (T := ⟨S_, .i32⟩) main_call0_call0_c_35) (constantI S_ 32 4#32),
    TRef.unary (TRef.of (T := ⟨S_, .i32⟩) main_call0_call0_c_35) (TRef.of (T := ⟨S1x1024x50257, .i32⟩) main_call0_call0_v140) (broadcastInDim S1x1024x50257 ![] bcast_S_S1x1024x50257),
    TRef.binary (TRef.of (T := ⟨S1x1024x50257, .i32⟩) main_call0_call0_v139) (TRef.of (T := ⟨S1x1024x50257, .i32⟩) main_call0_call0_v140) (TRef.of (T := ⟨S1x1024x50257, .i32⟩) main_call0_call0_v141) addi,
    TRef.binary (TRef.of (T := ⟨S1x1024x50257, .i32⟩) main_call0_call0_v137) (TRef.of (T := ⟨S1x1024x50257, .i32⟩) main_call0_call0_v141) (TRef.of (T := ⟨S1x1024x50257, .i32⟩) main_call0_call0_v142) addi,
    TRef.nullary (TRef.of (T := ⟨S_, .i32⟩) main_call0_call0_c_36) (constantI S_ 32 13#32),
    TRef.unary (TRef.of (T := ⟨S_, .i32⟩) main_call0_call0_c_36) (TRef.of (T := ⟨S1x1024x50257, .i32⟩) main_call0_call0_v143) (broadcastInDim S1x1024x50257 ![] bcast_S_S1x1024x50257),
    TRef.binary (TRef.of (T := ⟨S1x1024x50257, .i32⟩) main_call0_call0_v141) (TRef.of (T := ⟨S1x1024x50257, .i32⟩) main_call0_call0_v143) (TRef.of (T := ⟨S1x1024x50257, .i32⟩) main_call0_call0_v144) Host.shli,
    TRef.nullary (TRef.of (T := ⟨S_, .i32⟩) main_call0_call0_c_37) (constantI S_ 32 19#32),
    TRef.unary (TRef.of (T := ⟨S_, .i32⟩) main_call0_call0_c_37) (TRef.of (T := ⟨S1x1024x50257, .i32⟩) main_call0_call0_v145) (broadcastInDim S1x1024x50257 ![] bcast_S_S1x1024x50257),
    TRef.binary (TRef.of (T := ⟨S1x1024x50257, .i32⟩) main_call0_call0_v141) (TRef.of (T := ⟨S1x1024x50257, .i32⟩) main_call0_call0_v145) (TRef.of (T := ⟨S1x1024x50257, .i32⟩) main_call0_call0_v146) Host.shrui,
    TRef.binary (TRef.of (T := ⟨S1x1024x50257, .i32⟩) main_call0_call0_v144) (TRef.of (T := ⟨S1x1024x50257, .i32⟩) main_call0_call0_v146) (TRef.of (T := ⟨S1x1024x50257, .i32⟩) main_call0_call0_v147) ori,
    TRef.binary (TRef.of (T := ⟨S1x1024x50257, .i32⟩) main_call0_call0_v142) (TRef.of (T := ⟨S1x1024x50257, .i32⟩) main_call0_call0_v147) (TRef.of (T := ⟨S1x1024x50257, .i32⟩) main_call0_call0_v148) xori,
    TRef.binary (TRef.of (T := ⟨S1x1024x50257, .i32⟩) main_call0_call0_v142) (TRef.of (T := ⟨S1x1024x50257, .i32⟩) main_call0_call0_v148) (TRef.of (T := ⟨S1x1024x50257, .i32⟩) main_call0_call0_v149) addi,
    TRef.nullary (TRef.of (T := ⟨S_, .i32⟩) main_call0_call0_c_38) (constantI S_ 32 15#32),
    TRef.unary (TRef.of (T := ⟨S_, .i32⟩) main_call0_call0_c_38) (TRef.of (T := ⟨S1x1024x50257, .i32⟩) main_call0_call0_v150) (broadcastInDim S1x1024x50257 ![] bcast_S_S1x1024x50257),
    TRef.binary (TRef.of (T := ⟨S1x1024x50257, .i32⟩) main_call0_call0_v148) (TRef.of (T := ⟨S1x1024x50257, .i32⟩) main_call0_call0_v150) (TRef.of (T := ⟨S1x1024x50257, .i32⟩) main_call0_call0_v151) Host.shli,
    TRef.nullary (TRef.of (T := ⟨S_, .i32⟩) main_call0_call0_c_39) (constantI S_ 32 17#32),
    TRef.unary (TRef.of (T := ⟨S_, .i32⟩) main_call0_call0_c_39) (TRef.of (T := ⟨S1x1024x50257, .i32⟩) main_call0_call0_v152) (broadcastInDim S1x1024x50257 ![] bcast_S_S1x1024x50257),
    TRef.binary (TRef.of (T := ⟨S1x1024x50257, .i32⟩) main_call0_call0_v148) (TRef.of (T := ⟨S1x1024x50257, .i32⟩) main_call0_call0_v152) (TRef.of (T := ⟨S1x1024x50257, .i32⟩) main_call0_call0_v153) Host.shrui,
    TRef.binary (TRef.of (T := ⟨S1x1024x50257, .i32⟩) main_call0_call0_v151) (TRef.of (T := ⟨S1x1024x50257, .i32⟩) main_call0_call0_v153) (TRef.of (T := ⟨S1x1024x50257, .i32⟩) main_call0_call0_v154) ori,
    TRef.binary (TRef.of (T := ⟨S1x1024x50257, .i32⟩) main_call0_call0_v149) (TRef.of (T := ⟨S1x1024x50257, .i32⟩) main_call0_call0_v154) (TRef.of (T := ⟨S1x1024x50257, .i32⟩) main_call0_call0_v155) xori,
    TRef.binary (TRef.of (T := ⟨S1x1024x50257, .i32⟩) main_call0_call0_v149) (TRef.of (T := ⟨S1x1024x50257, .i32⟩) main_call0_call0_v155) (TRef.of (T := ⟨S1x1024x50257, .i32⟩) main_call0_call0_v156) addi,
    TRef.nullary (TRef.of (T := ⟨S_, .i32⟩) main_call0_call0_c_40) (constantI S_ 32 26#32),
    TRef.unary (TRef.of (T := ⟨S_, .i32⟩) main_call0_call0_c_40) (TRef.of (T := ⟨S1x1024x50257, .i32⟩) main_call0_call0_v157) (broadcastInDim S1x1024x50257 ![] bcast_S_S1x1024x50257),
    TRef.binary (TRef.of (T := ⟨S1x1024x50257, .i32⟩) main_call0_call0_v155) (TRef.of (T := ⟨S1x1024x50257, .i32⟩) main_call0_call0_v157) (TRef.of (T := ⟨S1x1024x50257, .i32⟩) main_call0_call0_v158) Host.shli ]

/-- @main's operations 241 … 270 of 329 (@main, which the printer did not cut). -/
abbrev ops_8 : List (HloOp τ sig (Elt F)) :=
  [ TRef.nullary (TRef.of (T := ⟨S_, .i32⟩) main_call0_call0_c_41) (constantI S_ 32 6#32),
    TRef.unary (TRef.of (T := ⟨S_, .i32⟩) main_call0_call0_c_41) (TRef.of (T := ⟨S1x1024x50257, .i32⟩) main_call0_call0_v159) (broadcastInDim S1x1024x50257 ![] bcast_S_S1x1024x50257),
    TRef.binary (TRef.of (T := ⟨S1x1024x50257, .i32⟩) main_call0_call0_v155) (TRef.of (T := ⟨S1x1024x50257, .i32⟩) main_call0_call0_v159) (TRef.of (T := ⟨S1x1024x50257, .i32⟩) main_call0_call0_v160) Host.shrui,
    TRef.binary (TRef.of (T := ⟨S1x1024x50257, .i32⟩) main_call0_call0_v158) (TRef.of (T := ⟨S1x1024x50257, .i32⟩) main_call0_call0_v160) (TRef.of (T := ⟨S1x1024x50257, .i32⟩) main_call0_call0_v161) ori,
    TRef.binary (TRef.of (T := ⟨S1x1024x50257, .i32⟩) main_call0_call0_v156) (TRef.of (T := ⟨S1x1024x50257, .i32⟩) main_call0_call0_v161) (TRef.of (T := ⟨S1x1024x50257, .i32⟩) main_call0_call0_v162) xori,
    TRef.binary (TRef.of (T := ⟨S1x1024x50257, .i32⟩) main_call0_call0_v156) (TRef.of (T := ⟨S1x1024x50257, .i32⟩) main_call0_call0_v162) (TRef.of (T := ⟨S1x1024x50257, .i32⟩) main_call0_call0_v163) addi,
    TRef.nullary (TRef.of (T := ⟨S_, .i32⟩) main_call0_call0_c_42) (constantI S_ 32 6#32),
    TRef.unary (TRef.of (T := ⟨S_, .i32⟩) main_call0_call0_c_42) (TRef.of (T := ⟨S1x1024x50257, .i32⟩) main_call0_call0_v164) (broadcastInDim S1x1024x50257 ![] bcast_S_S1x1024x50257),
    TRef.binary (TRef.of (T := ⟨S1x1024x50257, .i32⟩) main_call0_call0_v162) (TRef.of (T := ⟨S1x1024x50257, .i32⟩) main_call0_call0_v164) (TRef.of (T := ⟨S1x1024x50257, .i32⟩) main_call0_call0_v165) Host.shli,
    TRef.nullary (TRef.of (T := ⟨S_, .i32⟩) main_call0_call0_c_43) (constantI S_ 32 26#32),
    TRef.unary (TRef.of (T := ⟨S_, .i32⟩) main_call0_call0_c_43) (TRef.of (T := ⟨S1x1024x50257, .i32⟩) main_call0_call0_v166) (broadcastInDim S1x1024x50257 ![] bcast_S_S1x1024x50257),
    TRef.binary (TRef.of (T := ⟨S1x1024x50257, .i32⟩) main_call0_call0_v162) (TRef.of (T := ⟨S1x1024x50257, .i32⟩) main_call0_call0_v166) (TRef.of (T := ⟨S1x1024x50257, .i32⟩) main_call0_call0_v167) Host.shrui,
    TRef.binary (TRef.of (T := ⟨S1x1024x50257, .i32⟩) main_call0_call0_v165) (TRef.of (T := ⟨S1x1024x50257, .i32⟩) main_call0_call0_v167) (TRef.of (T := ⟨S1x1024x50257, .i32⟩) main_call0_call0_v168) ori,
    TRef.binary (TRef.of (T := ⟨S1x1024x50257, .i32⟩) main_call0_call0_v163) (TRef.of (T := ⟨S1x1024x50257, .i32⟩) main_call0_call0_v168) (TRef.of (T := ⟨S1x1024x50257, .i32⟩) main_call0_call0_v169) xori,
    TRef.unary (TRef.of (T := ⟨S_, .i32⟩) main_call0_call0_v1) (TRef.of (T := ⟨S1x1024x50257, .i32⟩) main_call0_call0_v170) (broadcastInDim S1x1024x50257 ![] bcast_S_S1x1024x50257),
    TRef.binary (TRef.of (T := ⟨S1x1024x50257, .i32⟩) main_call0_call0_v163) (TRef.of (T := ⟨S1x1024x50257, .i32⟩) main_call0_call0_v170) (TRef.of (T := ⟨S1x1024x50257, .i32⟩) main_call0_v23_0) addi,
    TRef.unary (TRef.of (T := ⟨S_, .i32⟩) main_call0_v5) (TRef.of (T := ⟨S1x1024x50257, .i32⟩) main_call0_call0_v172) (broadcastInDim S1x1024x50257 ![] bcast_S_S1x1024x50257),
    TRef.binary (TRef.of (T := ⟨S1x1024x50257, .i32⟩) main_call0_call0_v169) (TRef.of (T := ⟨S1x1024x50257, .i32⟩) main_call0_call0_v172) (TRef.of (T := ⟨S1x1024x50257, .i32⟩) main_call0_call0_v173) addi,
    TRef.nullary (TRef.of (T := ⟨S_, .i32⟩) main_call0_call0_c_44) (constantI S_ 32 5#32),
    TRef.unary (TRef.of (T := ⟨S_, .i32⟩) main_call0_call0_c_44) (TRef.of (T := ⟨S1x1024x50257, .i32⟩) main_call0_call0_v174) (broadcastInDim S1x1024x50257 ![] bcast_S_S1x1024x50257),
    TRef.binary (TRef.of (T := ⟨S1x1024x50257, .i32⟩) main_call0_call0_v173) (TRef.of (T := ⟨S1x1024x50257, .i32⟩) main_call0_call0_v174) (TRef.of (T := ⟨S1x1024x50257, .i32⟩) main_call0_v23_1) addi,
    TRef.binary (TRef.of (T := ⟨S1x1024x50257, .i32⟩) main_call0_v23_0) (TRef.of (T := ⟨S1x1024x50257, .i32⟩) main_call0_v23_1) (TRef.of (T := ⟨S1x1024x50257, .i32⟩) main_call0_v24) xori,
    TRef.nullary (TRef.of (T := ⟨S_, .i32⟩) main_call0_c_3) (constantI S_ 32 9#32),
    TRef.unary (TRef.of (T := ⟨S_, .i32⟩) main_call0_c_3) (TRef.of (T := ⟨S1x1024x50257, .i32⟩) main_call0_v25) (broadcastInDim S1x1024x50257 ![] bcast_S_S1x1024x50257),
    TRef.binary (TRef.of (T := ⟨S1x1024x50257, .i32⟩) main_call0_v24) (TRef.of (T := ⟨S1x1024x50257, .i32⟩) main_call0_v25) (TRef.of (T := ⟨S1x1024x50257, .i32⟩) main_call0_v26) Host.shrui,
    TRef.nullary (TRef.of (T := ⟨S_, .i32⟩) main_call0_c_4) (constantI S_ 32 1065353216#32),
    TRef.unary (TRef.of (T := ⟨S_, .i32⟩) main_call0_c_4) (TRef.of (T := ⟨S1x1024x50257, .i32⟩) main_call0_v27) (broadcastInDim S1x1024x50257 ![] bcast_S_S1x1024x50257),
    TRef.binary (TRef.of (T := ⟨S1x1024x50257, .i32⟩) main_call0_v26) (TRef.of (T := ⟨S1x1024x50257, .i32⟩) main_call0_v27) (TRef.of (T := ⟨S1x1024x50257, .i32⟩) main_call0_v28) ori,
    TRef.unary (TRef.of (T := ⟨S1x1024x50257, .i32⟩) main_call0_v28) (TRef.of (T := ⟨S1x1024x50257, .f32⟩) main_call0_v29) (bitcastToFloat (F := F) .f32),
    TRef.nullary (TRef.of (T := ⟨S_, .f32⟩) main_call0_cst) (constant S_ .f32 0x3F800000#32) ]

/-- @main's operations 271 … 300 of 329 (@main, which the printer did not cut). -/
abbrev ops_9 : List (HloOp τ sig (Elt F)) :=
  [ TRef.unary (TRef.of (T := ⟨S_, .f32⟩) main_call0_cst) (TRef.of (T := ⟨S1x1024x50257, .f32⟩) main_call0_v30) (broadcastInDim S1x1024x50257 ![] bcast_S_S1x1024x50257),
    TRef.binary (TRef.of (T := ⟨S1x1024x50257, .f32⟩) main_call0_v29) (TRef.of (T := ⟨S1x1024x50257, .f32⟩) main_call0_v30) (TRef.of (T := ⟨S1x1024x50257, .f32⟩) main_call0_v31) subf,
    TRef.binary (TRef.of (T := ⟨S1x1x1, .f32⟩) main_call0_v3) (TRef.of (T := ⟨S1x1x1, .f32⟩) main_call0_v2) (TRef.of (T := ⟨S1x1x1, .f32⟩) main_call0_v32) subf,
    TRef.unary (TRef.of (T := ⟨S1x1x1, .f32⟩) main_call0_v32) (TRef.of (T := ⟨S1x1024x50257, .f32⟩) main_call0_v33) (broadcastInDim S1x1024x50257 ![0, 1, 2] bcast_S1x1x1_S1x1024x50257_0_1_2),
    TRef.binary (TRef.of (T := ⟨S1x1024x50257, .f32⟩) main_call0_v31) (TRef.of (T := ⟨S1x1024x50257, .f32⟩) main_call0_v33) (TRef.of (T := ⟨S1x1024x50257, .f32⟩) main_call0_v34) mulf,
    TRef.unary (TRef.of (T := ⟨S1x1x1, .f32⟩) main_call0_v2) (TRef.of (T := ⟨S1x1024x50257, .f32⟩) main_call0_v35) (broadcastInDim S1x1024x50257 ![0, 1, 2] bcast_S1x1x1_S1x1024x50257_0_1_2),
    TRef.binary (TRef.of (T := ⟨S1x1024x50257, .f32⟩) main_call0_v34) (TRef.of (T := ⟨S1x1024x50257, .f32⟩) main_call0_v35) (TRef.of (T := ⟨S1x1024x50257, .f32⟩) main_call0_v36) addf,
    TRef.unary (TRef.of (T := ⟨S1x1x1, .f32⟩) main_call0_v2) (TRef.of (T := ⟨S1x1024x50257, .f32⟩) main_call0_v37) (broadcastInDim S1x1024x50257 ![0, 1, 2] bcast_S1x1x1_S1x1024x50257_0_1_2),
    TRef.binary (TRef.of (T := ⟨S1x1024x50257, .f32⟩) main_call0_v37) (TRef.of (T := ⟨S1x1024x50257, .f32⟩) main_call0_v36) (TRef.of (T := ⟨S1x1024x50257, .f32⟩) main_v7) maximumf,
    nullary main_cst_3 (constant S_ .f32 0x3F800000#32),
    unary main_cst_3 main_v8 (broadcastInDim S1x1024x50257 ![] bcast_S_S1x1024x50257 : (⟨S_, .f32⟩ : BufTy).Contents (Elt F) → (⟨S1x1024x50257, .f32⟩ : BufTy).Contents (Elt F)),
    binary main_v7 main_v8 main_v9 (mulf : (⟨S1x1024x50257, .f32⟩ : BufTy).Contents (Elt F) → (⟨S1x1024x50257, .f32⟩ : BufTy).Contents (Elt F) → (⟨S1x1024x50257, .f32⟩ : BufTy).Contents (Elt F)),
    nullary main_cst_4 (constant S_ .f32 0x3089705F#32),
    unary main_cst_4 main_v10 (broadcastInDim S1x1024x50257 ![] bcast_S_S1x1024x50257 : (⟨S_, .f32⟩ : BufTy).Contents (Elt F) → (⟨S1x1024x50257, .f32⟩ : BufTy).Contents (Elt F)),
    binary main_v9 main_v10 main_v11 (addf : (⟨S1x1024x50257, .f32⟩ : BufTy).Contents (Elt F) → (⟨S1x1024x50257, .f32⟩ : BufTy).Contents (Elt F) → (⟨S1x1024x50257, .f32⟩ : BufTy).Contents (Elt F)),
    nullary main_cst_5 (constant S_ .f32 0x3089705F#32),
    unary main_cst_5 main_v12 (broadcastInDim S1x1024x50257 ![] bcast_S_S1x1024x50257 : (⟨S_, .f32⟩ : BufTy).Contents (Elt F) → (⟨S1x1024x50257, .f32⟩ : BufTy).Contents (Elt F)),
    binary main_v12 main_v11 main_v13 (maximumf : (⟨S1x1024x50257, .f32⟩ : BufTy).Contents (Elt F) → (⟨S1x1024x50257, .f32⟩ : BufTy).Contents (Elt F) → (⟨S1x1024x50257, .f32⟩ : BufTy).Contents (Elt F)),
    unary main_v13 main_v14 (Host.log : (⟨S1x1024x50257, .f32⟩ : BufTy).Contents (Elt F) → (⟨S1x1024x50257, .f32⟩ : BufTy).Contents (Elt F)),
    unary main_v14 main_v15 (Host.negf : (⟨S1x1024x50257, .f32⟩ : BufTy).Contents (Elt F) → (⟨S1x1024x50257, .f32⟩ : BufTy).Contents (Elt F)),
    unary main_v15 main_v16 (Host.log : (⟨S1x1024x50257, .f32⟩ : BufTy).Contents (Elt F) → (⟨S1x1024x50257, .f32⟩ : BufTy).Contents (Elt F)),
    unary main_v16 main_v17 (Host.negf : (⟨S1x1024x50257, .f32⟩ : BufTy).Contents (Elt F) → (⟨S1x1024x50257, .f32⟩ : BufTy).Contents (Elt F)),
    binary main_arg0 main_v17 main_v18 (addf : (⟨S1x1024x50257, .f32⟩ : BufTy).Contents (Elt F) → (⟨S1x1024x50257, .f32⟩ : BufTy).Contents (Elt F) → (⟨S1x1024x50257, .f32⟩ : BufTy).Contents (Elt F)),
    nullary main_cst_6 (constant S_ .f32 0x3F800000#32),
    unary main_cst_6 main_v19 (broadcastInDim S1x1024x50257 ![] bcast_S_S1x1024x50257 : (⟨S_, .f32⟩ : BufTy).Contents (Elt F) → (⟨S1x1024x50257, .f32⟩ : BufTy).Contents (Elt F)),
    binary main_v18 main_v19 main_v20 (Host.divf : (⟨S1x1024x50257, .f32⟩ : BufTy).Contents (Elt F) → (⟨S1x1024x50257, .f32⟩ : BufTy).Contents (Elt F) → (⟨S1x1024x50257, .f32⟩ : BufTy).Contents (Elt F)),
    nullary main_cst_7 (constant S_ .f32 0xFF800000#32),
    binary main_v20 main_cst_7 main_v21 ((fun x v => Host.reduce FloatOps.maximumf x v reducesTo_S1x1024x50257_S1x1024_d2 h_S_) : (⟨S1x1024x50257, .f32⟩ : BufTy).Contents (Elt F) → (⟨S_, .f32⟩ : BufTy).Contents (Elt F) → (⟨S1x1024, .f32⟩ : BufTy).Contents (Elt F)),
    nullary main_cst_8 (constant S_ .f32 0xFF800000#32),
    unary main_cst_8 main_v22 (broadcastInDim S1x1024 ![] bcast_S_S1x1024 : (⟨S_, .f32⟩ : BufTy).Contents (Elt F) → (⟨S1x1024, .f32⟩ : BufTy).Contents (Elt F)) ]

/-- @main's operations 301 … 329 of 329 (@main, which the printer did not cut). -/
abbrev ops_10 : List (HloOp τ sig (Elt F)) :=
  [ binary main_v22 main_v21 main_v23 (maximumf : (⟨S1x1024, .f32⟩ : BufTy).Contents (Elt F) → (⟨S1x1024, .f32⟩ : BufTy).Contents (Elt F) → (⟨S1x1024, .f32⟩ : BufTy).Contents (Elt F)),
    unary main_v23 main_v24 (broadcastInDim S1x1024x1 ![0, 1] bcast_S1x1024_S1x1024x1_0_1 : (⟨S1x1024, .f32⟩ : BufTy).Contents (Elt F) → (⟨S1x1024x1, .f32⟩ : BufTy).Contents (Elt F)),
    unary main_v24 main_v25 (broadcastInDim S1x1024x50257 ![0, 1, 2] bcast_S1x1024x1_S1x1024x50257_0_1_2 : (⟨S1x1024x1, .f32⟩ : BufTy).Contents (Elt F) → (⟨S1x1024x50257, .f32⟩ : BufTy).Contents (Elt F)),
    binary main_v20 main_v25 main_v26 (subf : (⟨S1x1024x50257, .f32⟩ : BufTy).Contents (Elt F) → (⟨S1x1024x50257, .f32⟩ : BufTy).Contents (Elt F) → (⟨S1x1024x50257, .f32⟩ : BufTy).Contents (Elt F)),
    unary main_v26 main_v27 (Host.exp : (⟨S1x1024x50257, .f32⟩ : BufTy).Contents (Elt F) → (⟨S1x1024x50257, .f32⟩ : BufTy).Contents (Elt F)),
    nullary main_cst_9 (constant S_ .f32 0x00000000#32),
    binary main_v27 main_cst_9 main_v28 ((fun x v => Host.reduceAdd x v reducesTo_S1x1024x50257_S1x1024_d2 h_S_) : (⟨S1x1024x50257, .f32⟩ : BufTy).Contents (Elt F) → (⟨S_, .f32⟩ : BufTy).Contents (Elt F) → (⟨S1x1024, .f32⟩ : BufTy).Contents (Elt F)),
    unary main_v28 main_v29 (broadcastInDim S1x1024x1 ![0, 1] bcast_S1x1024_S1x1024x1_0_1 : (⟨S1x1024, .f32⟩ : BufTy).Contents (Elt F) → (⟨S1x1024x1, .f32⟩ : BufTy).Contents (Elt F)),
    unary main_v29 main_v30 (broadcastInDim S1x1024x50257 ![0, 1, 2] bcast_S1x1024x1_S1x1024x50257_0_1_2 : (⟨S1x1024x1, .f32⟩ : BufTy).Contents (Elt F) → (⟨S1x1024x50257, .f32⟩ : BufTy).Contents (Elt F)),
    binary main_v27 main_v30 main_v31 (Host.divf : (⟨S1x1024x50257, .f32⟩ : BufTy).Contents (Elt F) → (⟨S1x1024x50257, .f32⟩ : BufTy).Contents (Elt F) → (⟨S1x1024x50257, .f32⟩ : BufTy).Contents (Elt F)),
    TRef.nullary (TRef.of (T := ⟨S1x1024x50257, .i32⟩) main_call1_v0) (iotaInDim S1x1024x50257 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S1x1024x50257, .f32⟩) main_v31) (TRef.of (T := ⟨S1x1024x50257, .i32⟩) main_call1_v0) (TRef.of (T := ⟨S_, .f32⟩) main_call1_cst) (TRef.of (T := ⟨S_, .i32⟩) main_call1_c) (TRef.of (T := ⟨S1x1024, .f32⟩) main_call1_v1_0) (fun x y u v => (fun j => (Host.argReduce reducer_argmax_f32_i32 x y u v reducesTo_S1x1024x50257_S1x1024_d2 h_S_ j).1)),
    TRef.quaternary (TRef.of (T := ⟨S1x1024x50257, .f32⟩) main_v31) (TRef.of (T := ⟨S1x1024x50257, .i32⟩) main_call1_v0) (TRef.of (T := ⟨S_, .f32⟩) main_call1_cst) (TRef.of (T := ⟨S_, .i32⟩) main_call1_c) (TRef.of (T := ⟨S1x1024, .i32⟩) main_v32) (fun x y u v => (fun j => (Host.argReduce reducer_argmax_f32_i32 x y u v reducesTo_S1x1024x50257_S1x1024_d2 h_S_ j).2)),
    TRef.unary (TRef.of (T := ⟨S1x1024, .i32⟩) main_v32) (TRef.of (T := ⟨S1x1024x1, .i32⟩) main_call2_v0) (broadcastInDim S1x1024x1 ![0, 1] bcast_S1x1024_S1x1024x1_0_1),
    TRef.nullary (TRef.of (T := ⟨S1x1x50257, .i32⟩) main_call2_v1) (iotaInDim S1x1x50257 32 2),
    TRef.unary (TRef.of (T := ⟨S1x1024x1, .i32⟩) main_call2_v0) (TRef.of (T := ⟨S1x1024x50257, .i32⟩) main_call2_v2) (broadcastInDim S1x1024x50257 ![0, 1, 2] bcast_S1x1024x1_S1x1024x50257_0_1_2),
    TRef.unary (TRef.of (T := ⟨S1x1x50257, .i32⟩) main_call2_v1) (TRef.of (T := ⟨S1x1024x50257, .i32⟩) main_call2_v3) (broadcastInDim S1x1024x50257 ![0, 1, 2] bcast_S1x1x50257_S1x1024x50257_0_1_2),
    TRef.binary (TRef.of (T := ⟨S1x1024x50257, .i32⟩) main_call2_v2) (TRef.of (T := ⟨S1x1024x50257, .i32⟩) main_call2_v3) (TRef.of (T := ⟨S1x1024x50257, .i1⟩) main_call2_v4) (cmpi .eq),
    TRef.unary (TRef.of (T := ⟨S1x1024x50257, .i1⟩) main_call2_v4) (TRef.of (T := ⟨S1x1024x50257, .f32⟩) main_v33) (uitofp .f32),
    binary main_v33 main_v31 main_v34 (subf : (⟨S1x1024x50257, .f32⟩ : BufTy).Contents (Elt F) → (⟨S1x1024x50257, .f32⟩ : BufTy).Contents (Elt F) → (⟨S1x1024x50257, .f32⟩ : BufTy).Contents (Elt F)),
    binary main_v34 main_v31 main_v35 (addf : (⟨S1x1024x50257, .f32⟩ : BufTy).Contents (Elt F) → (⟨S1x1024x50257, .f32⟩ : BufTy).Contents (Elt F) → (⟨S1x1024x50257, .f32⟩ : BufTy).Contents (Elt F)),
    nullary main_v36 (sitofp .f32 (iotaInDim S50257 32 0)),
    unary main_v36 main_v37 (broadcastInDim S1x1x50257 ![2] bcast_S50257_S1x1x50257_2 : (⟨S50257, .f32⟩ : BufTy).Contents (Elt F) → (⟨S1x1x50257, .f32⟩ : BufTy).Contents (Elt F)),
    unary main_v37 main_v38 (broadcastInDim S1x1024x50257 ![0, 1, 2] bcast_S1x1x50257_S1x1024x50257_0_1_2 : (⟨S1x1x50257, .f32⟩ : BufTy).Contents (Elt F) → (⟨S1x1024x50257, .f32⟩ : BufTy).Contents (Elt F)),
    binary main_v35 main_v38 main_v39 (mulf : (⟨S1x1024x50257, .f32⟩ : BufTy).Contents (Elt F) → (⟨S1x1024x50257, .f32⟩ : BufTy).Contents (Elt F) → (⟨S1x1024x50257, .f32⟩ : BufTy).Contents (Elt F)),
    nullary main_cst_10 (constant S_ .f32 0x00000000#32),
    binary main_v39 main_cst_10 main_v40 ((fun x v => Host.reduceAdd x v reducesTo_S1x1024x50257_S1x1024_d2 h_S_) : (⟨S1x1024x50257, .f32⟩ : BufTy).Contents (Elt F) → (⟨S_, .f32⟩ : BufTy).Contents (Elt F) → (⟨S1x1024, .f32⟩ : BufTy).Contents (Elt F)) ]

/-- @main's 329 operations, in order (a called function's operations stand in its call's place, spelt `TRef.…`). -/
abbrev ops : List (HloOp τ sig (Elt F)) :=
  ops_0 ++ (ops_1 ++ (ops_2 ++ (ops_3 ++ (ops_4 ++ (ops_5 ++ (ops_6 ++ (ops_7 ++ (ops_8 ++ (ops_9 ++ (ops_10))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_0_sub : (ops_0 : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., nullary_bufs_sub .., unary_bufs_sub .., binary_bufs_sub .., nullary_bufs_sub .., unary_bufs_sub .., binary_bufs_sub .., nullary_bufs_sub ..⟩
set_option maxRecDepth 8192 in
theorem ops_0_fresh : (ops_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_1_sub : (ops_1 : List (HloOp τ sig (Elt F))).Forall fun op => op.bufs ⊆ tcRefs τ sig :=
  ⟨unary_bufs_sub .., binary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
set_option maxRecDepth 8192 in
theorem ops_1_fresh : (ops_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_2_sub : (ops_2 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩
set_option maxRecDepth 8192 in
theorem ops_2_fresh : (ops_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_3_sub : (ops_3 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
set_option maxRecDepth 8192 in
theorem ops_3_fresh : (ops_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_4_sub : (ops_4 : List (HloOp τ sig (Elt F))).Forall fun op => op.bufs ⊆ tcRefs τ sig :=
  ⟨nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_4_fresh : (ops_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_5_sub : (ops_5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub ..⟩
set_option maxRecDepth 8192 in
theorem ops_5_fresh : (ops_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_6_sub : (ops_6 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops_6_fresh : (ops_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_7_sub : (ops_7 : List (HloOp τ sig (Elt F))).Forall fun op => op.bufs ⊆ tcRefs τ sig :=
  ⟨binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
set_option maxRecDepth 8192 in
theorem ops_7_fresh : (ops_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_8_sub : (ops_8 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub ..⟩
set_option maxRecDepth 8192 in
theorem ops_8_fresh : (ops_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_9_sub : (ops_9 : List (HloOp τ sig (Elt F))).Forall fun op => op.bufs ⊆ tcRefs τ sig :=
  ⟨unary_bufs_sub .., binary_bufs_sub .., binary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., binary_bufs_sub .., nullary_bufs_sub .., unary_bufs_sub ..⟩
set_option maxRecDepth 8192 in
theorem ops_9_fresh : (ops_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_10_sub : (ops_10 : List (HloOp τ sig (Elt F))).Forall fun op => op.bufs ⊆ tcRefs τ sig :=
  ⟨binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub .., nullary_bufs_sub .., unary_bufs_sub .., unary_bufs_sub .., binary_bufs_sub .., nullary_bufs_sub .., binary_bufs_sub ..⟩
set_option maxRecDepth 8192 in
theorem ops_10_fresh : (ops_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp ops_0_sub op h, List.forall_iff_forall_mem.mp ops_1_sub op h, List.forall_iff_forall_mem.mp ops_2_sub op h, List.forall_iff_forall_mem.mp ops_3_sub op h, List.forall_iff_forall_mem.mp ops_4_sub op h, List.forall_iff_forall_mem.mp ops_5_sub op h, List.forall_iff_forall_mem.mp ops_6_sub op h, List.forall_iff_forall_mem.mp ops_7_sub op h, List.forall_iff_forall_mem.mp ops_8_sub op h, List.forall_iff_forall_mem.mp ops_9_sub op h, List.forall_iff_forall_mem.mp ops_10_sub op h]
theorem ops_fresh : ∀ op ∈ (ops : List (HloOp τ sig (Elt F))), op.fresh = ∅ := fun op h => by
    simp only [ops, List.mem_append] at h
    rcases h with h | h | h | h | h | h | h | h | h | h | h
    exacts [List.forall_iff_forall_mem.mp ops_0_fresh op h, List.forall_iff_forall_mem.mp ops_1_fresh op h, List.forall_iff_forall_mem.mp ops_2_fresh op h, List.forall_iff_forall_mem.mp ops_3_fresh op h, List.forall_iff_forall_mem.mp ops_4_fresh op h, List.forall_iff_forall_mem.mp ops_5_fresh op h, List.forall_iff_forall_mem.mp ops_6_fresh op h, List.forall_iff_forall_mem.mp ops_7_fresh op h, List.forall_iff_forall_mem.mp ops_8_fresh op h, List.forall_iff_forall_mem.mp ops_9_fresh op h, List.forall_iff_forall_mem.mp ops_10_fresh op h]

end Cert.ReferenceIdeal.Value

end
-- ==== Proof.RefRun.lean ====
/-
  The reference program's run: every weakly fair execution of @main ends with each result at the operations' composed term of the
  argument, and the argument unchanged. The terms are read off the operation lists, one list after another.
-/
module

public import proofs.«01_k».proof.Proof.RefOps
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_c`'s composed term of the arguments (named: it is used 2 times). -/
def res_main_c (V0 : Valuation τ sig (Elt F)) : (Proc.devRef .tc main_c : DevRef τ sig).ty.Contents (Elt F) :=
  constantI S_ 32 42#32

set_option maxRecDepth 8192 in
/-- `main_v6`'s composed term of the arguments (named: it is used 2 times). -/
def res_main_v6 (V0 : Valuation τ sig (Elt F)) : (Proc.devRef .tc main_v6 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_call0_v2`'s composed term of the arguments (named: it is used 3 times). -/
def res_main_call0_v2 (V0 : Valuation τ sig (Elt F)) : (Proc.devRef .tc main_call0_v2 : DevRef τ sig).ty.Contents (Elt F) :=
  broadcastInDim S1x1x1 ![] bcast_S_S1x1x1 (id (constant S_ .f32 0x00000000#32))

set_option maxRecDepth 8192 in
/-- `main_call0_v5`'s composed term of the arguments (named: it is used 5 times). -/
def res_main_call0_v5 (V0 : Valuation τ sig (Elt F)) : (Proc.devRef .tc main_call0_v5 : DevRef τ sig).ty.Contents (Elt F) :=
  shapeCast _ (extractStridedSlice S1 ![0] (res_main_v6 V0) slices_S2_S1_0) shapeCasts_S1_S_

set_option maxRecDepth 8192 in
/-- `main_call0_v7`'s composed term of the arguments (named: it is used 5 times). -/
def res_main_call0_v7 (V0 : Valuation τ sig (Elt F)) : (Proc.devRef .tc main_call0_v7 : DevRef τ sig).ty.Contents (Elt F) :=
  shapeCast _ (extractStridedSlice S1 ![1] (res_main_v6 V0) slices_S2_S1_1) shapeCasts_S1_S_

set_option maxRecDepth 8192 in
/-- `main_call0_v18`'s composed term of the arguments (named: it is used 2 times). -/
def res_main_call0_v18 (V0 : Valuation τ sig (Elt F)) : (Proc.devRef .tc main_call0_v18 : DevRef τ sig).ty.Contents (Elt F) :=
  addi (addi (muli (broadcastInDim S1x1024x50257 ![] bcast_S_S1x1024x50257 (constantI S_ 64 51463168#64)) (iotaInDim S1x1024x50257 64 0)) (muli (broadcastInDim S1x1024x50257 ![] bcast_S_S1x1024x50257 (constantI S_ 64 50257#64)) (iotaInDim S1x1024x50257 64 1))) (muli (broadcastInDim S1x1024x50257 ![] bcast_S_S1x1024x50257 (constantI S_ 64 1#64)) (iotaInDim S1x1024x50257 64 2))

set_option maxRecDepth 8192 in
/-- `main_call0_call0_v1`'s composed term of the arguments (named: it is used 4 times). -/
def res_main_call0_call0_v1 (V0 : Valuation τ sig (Elt F)) : (Proc.devRef .tc main_call0_call0_v1 : DevRef τ sig).ty.Contents (Elt F) :=
  xori (xori (res_main_call0_v5 V0) (res_main_call0_v7 V0)) (constantI S_ 32 466688986#32)

set_option maxRecDepth 8192 in
/-- `main_call0_call0_v5`'s composed term of the arguments (named: it is used 3 times). -/
def res_main_call0_call0_v5 (V0 : Valuation τ sig (Elt F)) : (Proc.devRef .tc main_call0_call0_v5 : DevRef τ sig).ty.Contents (Elt F) :=
  addi (trunci 32 (res_main_call0_v18 V0) natLt_32_64) (broadcastInDim S1x1024x50257 ![] bcast_S_S1x1024x50257 (res_main_call0_v7 V0))

set_option maxRecDepth 8192 in
/-- `main_call0_call0_v6`'s composed term of the arguments (named: it is used 2 times). -/
def res_main_call0_call0_v6 (V0 : Valuation τ sig (Elt F)) : (Proc.devRef .tc main_call0_call0_v6 : DevRef τ sig).ty.Contents (Elt F) :=
  addi (addi (trunci 32 (Host.shrui (res_main_call0_v18 V0) (broadcastInDim S1x1024x50257 ![] bcast_S_S1x1024x50257 (constantI S_ 64 32#64))) natLt_32_64) (broadcastInDim S1x1024x50257 ![] bcast_S_S1x1024x50257 (res_main_call0_v5 V0))) (res_main_call0_call0_v5 V0)

set_option maxRecDepth 8192 in
/-- `main_call0_call0_v12`'s composed term of the arguments (named: it is used 3 times). -/
def res_main_call0_call0_v12 (V0 : Valuation τ sig (Elt F)) : (Proc.devRef .tc main_call0_call0_v12 : DevRef τ sig).ty.Contents (Elt F) :=
  xori (res_main_call0_call0_v6 V0) (ori (Host.shli (res_main_call0_call0_v5 V0) (broadcastInDim S1x1024x50257 ![] bcast_S_S1x1024x50257 (constantI S_ 32 13#32))) (Host.shrui (res_main_call0_call0_v5 V0) (broadcastInDim S1x1024x50257 ![] bcast_S_S1x1024x50257 (constantI S_ 32 19#32))))

set_option maxRecDepth 8192 in
/-- `main_call0_call0_v13`'s composed term of the arguments (named: it is used 2 times). -/
def res_main_call0_call0_v13 (V0 : Valuation τ sig (Elt F)) : (Proc.devRef .tc main_call0_call0_v13 : DevRef τ sig).ty.Contents (Elt F) :=
  addi (res_main_call0_call0_v6 V0) (res_main_call0_call0_v12 V0)

set_option maxRecDepth 8192 in
/-- `main_call0_call0_v19`'s composed term of the arguments (named: it is used 3 times). -/
def res_main_call0_call0_v19 (V0 : Valuation τ sig (Elt F)) : (Proc.devRef .tc main_call0_call0_v19 : DevRef τ sig).ty.Contents (Elt F) :=
  xori (res_main_call0_call0_v13 V0) (ori (Host.shli (res_main_call0_call0_v12 V0) (broadcastInDim S1x1024x50257 ![] bcast_S_S1x1024x50257 (constantI S_ 32 15#32))) (Host.shrui (res_main_call0_call0_v12 V0) (broadcastInDim S1x1024x50257 ![] bcast_S_S1x1024x50257 (constantI S_ 32 17#32))))

set_option maxRecDepth 8192 in
/-- `main_call0_call0_v20`'s composed term of the arguments (named: it is used 2 times). -/
def res_main_call0_call0_v20 (V0 : Valuation τ sig (Elt F)) : (Proc.devRef .tc main_call0_call0_v20 : DevRef τ sig).ty.Contents (Elt F) :=
  addi (res_main_call0_call0_v13 V0) (res_main_call0_call0_v19 V0)

set_option maxRecDepth 8192 in
/-- `main_call0_call0_v26`'s composed term of the arguments (named: it is used 3 times). -/
def res_main_call0_call0_v26 (V0 : Valuation τ sig (Elt F)) : (Proc.devRef .tc main_call0_call0_v26 : DevRef τ sig).ty.Contents (Elt F) :=
  xori (res_main_call0_call0_v20 V0) (ori (Host.shli (res_main_call0_call0_v19 V0) (broadcastInDim S1x1024x50257 ![] bcast_S_S1x1024x50257 (constantI S_ 32 26#32))) (Host.shrui (res_main_call0_call0_v19 V0) (broadcastInDim S1x1024x50257 ![] bcast_S_S1x1024x50257 (constantI S_ 32 6#32))))

set_option maxRecDepth 8192 in
/-- `main_call0_call0_v27`'s composed term of the arguments (named: it is used 2 times). -/
def res_main_call0_call0_v27 (V0 : Valuation τ sig (Elt F)) : (Proc.devRef .tc main_call0_call0_v27 : DevRef τ sig).ty.Contents (Elt F) :=
  addi (res_main_call0_call0_v20 V0) (res_main_call0_call0_v26 V0)

set_option maxRecDepth 8192 in
/-- `main_call0_call0_v39`'s composed term of the arguments (named: it is used 3 times). -/
def res_main_call0_call0_v39 (V0 : Valuation τ sig (Elt F)) : (Proc.devRef .tc main_call0_call0_v39 : DevRef τ sig).ty.Contents (Elt F) :=
  addi (addi (xori (res_main_call0_call0_v27 V0) (ori (Host.shli (res_main_call0_call0_v26 V0) (broadcastInDim S1x1024x50257 ![] bcast_S_S1x1024x50257 (constantI S_ 32 6#32))) (Host.shrui (res_main_call0_call0_v26 V0) (broadcastInDim S1x1024x50257 ![] bcast_S_S1x1024x50257 (constantI S_ 32 26#32))))) (broadcastInDim S1x1024x50257 ![] bcast_S_S1x1024x50257 (res_main_call0_call0_v1 V0))) (broadcastInDim S1x1024x50257 ![] bcast_S_S1x1024x50257 (constantI S_ 32 1#32))

set_option maxRecDepth 8192 in
/-- `main_call0_call0_v40`'s composed term of the arguments (named: it is used 2 times). -/
def res_main_call0_call0_v40 (V0 : Valuation τ sig (Elt F)) : (Proc.devRef .tc main_call0_call0_v40 : DevRef τ sig).ty.Contents (Elt F) :=
  addi (addi (res_main_call0_call0_v27 V0) (broadcastInDim S1x1024x50257 ![] bcast_S_S1x1024x50257 (res_main_call0_v7 V0))) (res_main_call0_call0_v39 V0)

set_option maxRecDepth 8192 in
/-- `main_call0_call0_v46`'s composed term of the arguments (named: it is used 3 times). -/
def res_main_call0_call0_v46 (V0 : Valuation τ sig (Elt F)) : (Proc.devRef .tc main_call0_call0_v46 : DevRef τ sig).ty.Contents (Elt F) :=
  xori (res_main_call0_call0_v40 V0) (ori (Host.shli (res_main_call0_call0_v39 V0) (broadcastInDim S1x1024x50257 ![] bcast_S_S1x1024x50257 (constantI S_ 32 17#32))) (Host.shrui (res_main_call0_call0_v39 V0) (broadcastInDim S1x1024x50257 ![] bcast_S_S1x1024x50257 (constantI S_ 32 15#32))))

set_option maxRecDepth 8192 in
/-- `main_call0_call0_v47`'s composed term of the arguments (named: it is used 2 times). -/
def res_main_call0_call0_v47 (V0 : Valuation τ sig (Elt F)) : (Proc.devRef .tc main_call0_call0_v47 : DevRef τ sig).ty.Contents (Elt F) :=
  addi (res_main_call0_call0_v40 V0) (res_main_call0_call0_v46 V0)

set_option maxRecDepth 8192 in
/-- `main_call0_call0_v53`'s composed term of the arguments (named: it is used 3 times). -/
def res_main_call0_call0_v53 (V0 : Valuation τ sig (Elt F)) : (Proc.devRef .tc main_call0_call0_v53 : DevRef τ sig).ty.Contents (Elt F) :=
  xori (res_main_call0_call0_v47 V0) (ori (Host.shli (res_main_call0_call0_v46 V0) (broadcastInDim S1x1024x50257 ![] bcast_S_S1x1024x50257 (constantI S_ 32 29#32))) (Host.shrui (res_main_call0_call0_v46 V0) (broadcastInDim S1x1024x50257 ![] bcast_S_S1x1024x50257 (constantI S_ 32 3#32))))

set_option maxRecDepth 8192 in
/-- `main_call0_call0_v54`'s composed term of the arguments (named: it is used 2 times). -/
def res_main_call0_call0_v54 (V0 : Valuation τ sig (Elt F)) : (Proc.devRef .tc main_call0_call0_v54 : DevRef τ sig).ty.Contents (Elt F) :=
  addi (res_main_call0_call0_v47 V0) (res_main_call0_call0_v53 V0)

set_option maxRecDepth 8192 in
/-- `main_call0_call0_v60`'s composed term of the arguments (named: it is used 3 times). -/
def res_main_call0_call0_v60 (V0 : Valuation τ sig (Elt F)) : (Proc.devRef .tc main_call0_call0_v60 : DevRef τ sig).ty.Contents (Elt F) :=
  xori (res_main_call0_call0_v54 V0) (ori (Host.shli (res_main_call0_call0_v53 V0) (broadcastInDim S1x1024x50257 ![] bcast_S_S1x1024x50257 (constantI S_ 32 16#32))) (Host.shrui (res_main_call0_call0_v53 V0) (broadcastInDim S1x1024x50257 ![] bcast_S_S1x1024x50257 (constantI S_ 32 16#32))))

set_option maxRecDepth 8192 in
/-- `main_call0_call0_v61`'s composed term of the arguments (named: it is used 2 times). -/
def res_main_call0_call0_v61 (V0 : Valuation τ sig (Elt F)) : (Proc.devRef .tc main_call0_call0_v61 : DevRef τ sig).ty.Contents (Elt F) :=
  addi (res_main_call0_call0_v54 V0) (res_main_call0_call0_v60 V0)

set_option maxRecDepth 8192 in
/-- `main_call0_call0_v73`'s composed term of the arguments (named: it is used 3 times). -/
def res_main_call0_call0_v73 (V0 : Valuation τ sig (Elt F)) : (Proc.devRef .tc main_call0_call0_v73 : DevRef τ sig).ty.Contents (Elt F) :=
  addi (addi (xori (res_main_call0_call0_v61 V0) (ori (Host.shli (res_main_call0_call0_v60 V0) (broadcastInDim S1x1024x50257 ![] bcast_S_S1x1024x50257 (constantI S_ 32 24#32))) (Host.shrui (res_main_call0_call0_v60 V0) (broadcastInDim S1x1024x50257 ![] bcast_S_S1x1024x50257 (constantI S_ 32 8#32))))) (broadcastInDim S1x1024x50257 ![] bcast_S_S1x1024x50257 (res_main_call0_v5 V0))) (broadcastInDim S1x1024x50257 ![] bcast_S_S1x1024x50257 (constantI S_ 32 2#32))

set_option maxRecDepth 8192 in
/-- `main_call0_call0_v74`'s composed term of the arguments (named: it is used 2 times). -/
def res_main_call0_call0_v74 (V0 : Valuation τ sig (Elt F)) : (Proc.devRef .tc main_call0_call0_v74 : DevRef τ sig).ty.Contents (Elt F) :=
  addi (addi (res_main_call0_call0_v61 V0) (broadcastInDim S1x1024x50257 ![] bcast_S_S1x1024x50257 (res_main_call0_call0_v1 V0))) (res_main_call0_call0_v73 V0)

set_option maxRecDepth 8192 in
/-- `main_call0_call0_v80`'s composed term of the arguments (named: it is used 3 times). -/
def res_main_call0_call0_v80 (V0 : Valuation τ sig (Elt F)) : (Proc.devRef .tc main_call0_call0_v80 : DevRef τ sig).ty.Contents (Elt F) :=
  xori (res_main_call0_call0_v74 V0) (ori (Host.shli (res_main_call0_call0_v73 V0) (broadcastInDim S1x1024x50257 ![] bcast_S_S1x1024x50257 (constantI S_ 32 13#32))) (Host.shrui (res_main_call0_call0_v73 V0) (broadcastInDim S1x1024x50257 ![] bcast_S_S1x1024x50257 (constantI S_ 32 19#32))))

set_option maxRecDepth 8192 in
/-- `main_call0_call0_v81`'s composed term of the arguments (named: it is used 2 times). -/
def res_main_call0_call0_v81 (V0 : Valuation τ sig (Elt F)) : (Proc.devRef .tc main_call0_call0_v81 : DevRef τ sig).ty.Contents (Elt F) :=
  addi (res_main_call0_call0_v74 V0) (res_main_call0_call0_v80 V0)

set_option maxRecDepth 8192 in
/-- `main_call0_call0_v87`'s composed term of the arguments (named: it is used 3 times). -/
def res_main_call0_call0_v87 (V0 : Valuation τ sig (Elt F)) : (Proc.devRef .tc main_call0_call0_v87 : DevRef τ sig).ty.Contents (Elt F) :=
  xori (res_main_call0_call0_v81 V0) (ori (Host.shli (res_main_call0_call0_v80 V0) (broadcastInDim S1x1024x50257 ![] bcast_S_S1x1024x50257 (constantI S_ 32 15#32))) (Host.shrui (res_main_call0_call0_v80 V0) (broadcastInDim S1x1024x50257 ![] bcast_S_S1x1024x50257 (constantI S_ 32 17#32))))

set_option maxRecDepth 8192 in
/-- `main_call0_call0_v88`'s composed term of the arguments (named: it is used 2 times). -/
def res_main_call0_call0_v88 (V0 : Valuation τ sig (Elt F)) : (Proc.devRef .tc main_call0_call0_v88 : DevRef τ sig).ty.Contents (Elt F) :=
  addi (res_main_call0_call0_v81 V0) (res_main_call0_call0_v87 V0)

set_option maxRecDepth 8192 in
/-- `main_call0_call0_v94`'s composed term of the arguments (named: it is used 3 times). -/
def res_main_call0_call0_v94 (V0 : Valuation τ sig (Elt F)) : (Proc.devRef .tc main_call0_call0_v94 : DevRef τ sig).ty.Contents (Elt F) :=
  xori (res_main_call0_call0_v88 V0) (ori (Host.shli (res_main_call0_call0_v87 V0) (broadcastInDim S1x1024x50257 ![] bcast_S_S1x1024x50257 (constantI S_ 32 26#32))) (Host.shrui (res_main_call0_call0_v87 V0) (broadcastInDim S1x1024x50257 ![] bcast_S_S1x1024x50257 (constantI S_ 32 6#32))))

set_option maxRecDepth 8192 in
/-- `main_call0_call0_v95`'s composed term of the arguments (named: it is used 2 times). -/
def res_main_call0_call0_v95 (V0 : Valuation τ sig (Elt F)) : (Proc.devRef .tc main_call0_call0_v95 : DevRef τ sig).ty.Contents (Elt F) :=
  addi (res_main_call0_call0_v88 V0) (res_main_call0_call0_v94 V0)

set_option maxRecDepth 8192 in
/-- `main_call0_call0_v107`'s composed term of the arguments (named: it is used 3 times). -/
def res_main_call0_call0_v107 (V0 : Valuation τ sig (Elt F)) : (Proc.devRef .tc main_call0_call0_v107 : DevRef τ sig).ty.Contents (Elt F) :=
  addi (addi (xori (res_main_call0_call0_v95 V0) (ori (Host.shli (res_main_call0_call0_v94 V0) (broadcastInDim S1x1024x50257 ![] bcast_S_S1x1024x50257 (constantI S_ 32 6#32))) (Host.shrui (res_main_call0_call0_v94 V0) (broadcastInDim S1x1024x50257 ![] bcast_S_S1x1024x50257 (constantI S_ 32 26#32))))) (broadcastInDim S1x1024x50257 ![] bcast_S_S1x1024x50257 (res_main_call0_v7 V0))) (broadcastInDim S1x1024x50257 ![] bcast_S_S1x1024x50257 (constantI S_ 32 3#32))

set_option maxRecDepth 8192 in
/-- `main_call0_call0_v108`'s composed term of the arguments (named: it is used 2 times). -/
def res_main_call0_call0_v108 (V0 : Valuation τ sig (Elt F)) : (Proc.devRef .tc main_call0_call0_v108 : DevRef τ sig).ty.Contents (Elt F) :=
  addi (addi (res_main_call0_call0_v95 V0) (broadcastInDim S1x1024x50257 ![] bcast_S_S1x1024x50257 (res_main_call0_v5 V0))) (res_main_call0_call0_v107 V0)

set_option maxRecDepth 8192 in
/-- `main_call0_call0_v114`'s composed term of the arguments (named: it is used 3 times). -/
def res_main_call0_call0_v114 (V0 : Valuation τ sig (Elt F)) : (Proc.devRef .tc main_call0_call0_v114 : DevRef τ sig).ty.Contents (Elt F) :=
  xori (res_main_call0_call0_v108 V0) (ori (Host.shli (res_main_call0_call0_v107 V0) (broadcastInDim S1x1024x50257 ![] bcast_S_S1x1024x50257 (constantI S_ 32 17#32))) (Host.shrui (res_main_call0_call0_v107 V0) (broadcastInDim S1x1024x50257 ![] bcast_S_S1x1024x50257 (constantI S_ 32 15#32))))

set_option maxRecDepth 8192 in
/-- `main_call0_call0_v115`'s composed term of the arguments (named: it is used 2 times). -/
def res_main_call0_call0_v115 (V0 : Valuation τ sig (Elt F)) : (Proc.devRef .tc main_call0_call0_v115 : DevRef τ sig).ty.Contents (Elt F) :=
  addi (res_main_call0_call0_v108 V0) (res_main_call0_call0_v114 V0)

set_option maxRecDepth 8192 in
/-- `main_call0_call0_v121`'s composed term of the arguments (named: it is used 3 times). -/
def res_main_call0_call0_v121 (V0 : Valuation τ sig (Elt F)) : (Proc.devRef .tc main_call0_call0_v121 : DevRef τ sig).ty.Contents (Elt F) :=
  xori (res_main_call0_call0_v115 V0) (ori (Host.shli (res_main_call0_call0_v114 V0) (broadcastInDim S1x1024x50257 ![] bcast_S_S1x1024x50257 (constantI S_ 32 29#32))) (Host.shrui (res_main_call0_call0_v114 V0) (broadcastInDim S1x1024x50257 ![] bcast_S_S1x1024x50257 (constantI S_ 32 3#32))))

set_option maxRecDepth 8192 in
/-- `main_call0_call0_v122`'s composed term of the arguments (named: it is used 2 times). -/
def res_main_call0_call0_v122 (V0 : Valuation τ sig (Elt F)) : (Proc.devRef .tc main_call0_call0_v122 : DevRef τ sig).ty.Contents (Elt F) :=
  addi (res_main_call0_call0_v115 V0) (res_main_call0_call0_v121 V0)

set_option maxRecDepth 8192 in
/-- `main_call0_call0_v128`'s composed term of the arguments (named: it is used 3 times). -/
def res_main_call0_call0_v128 (V0 : Valuation τ sig (Elt F)) : (Proc.devRef .tc main_call0_call0_v128 : DevRef τ sig).ty.Contents (Elt F) :=
  xori (res_main_call0_call0_v122 V0) (ori (Host.shli (res_main_call0_call0_v121 V0) (broadcastInDim S1x1024x50257 ![] bcast_S_S1x1024x50257 (constantI S_ 32 16#32))) (Host.shrui (res_main_call0_call0_v121 V0) (broadcastInDim S1x1024x50257 ![] bcast_S_S1x1024x50257 (constantI S_ 32 16#32))))

set_option maxRecDepth 8192 in
/-- `main_call0_call0_v129`'s composed term of the arguments (named: it is used 2 times). -/
def res_main_call0_call0_v129 (V0 : Valuation τ sig (Elt F)) : (Proc.devRef .tc main_call0_call0_v129 : DevRef τ sig).ty.Contents (Elt F) :=
  addi (res_main_call0_call0_v122 V0) (res_main_call0_call0_v128 V0)

set_option maxRecDepth 8192 in
/-- `main_call0_call0_v141`'s composed term of the arguments (named: it is used 3 times). -/
def res_main_call0_call0_v141 (V0 : Valuation τ sig (Elt F)) : (Proc.devRef .tc main_call0_call0_v141 : DevRef τ sig).ty.Contents (Elt F) :=
  addi (addi (xori (res_main_call0_call0_v129 V0) (ori (Host.shli (res_main_call0_call0_v128 V0) (broadcastInDim S1x1024x50257 ![] bcast_S_S1x1024x50257 (constantI S_ 32 24#32))) (Host.shrui (res_main_call0_call0_v128 V0) (broadcastInDim S1x1024x50257 ![] bcast_S_S1x1024x50257 (constantI S_ 32 8#32))))) (broadcastInDim S1x1024x50257 ![] bcast_S_S1x1024x50257 (res_main_call0_call0_v1 V0))) (broadcastInDim S1x1024x50257 ![] bcast_S_S1x1024x50257 (constantI S_ 32 4#32))

set_option maxRecDepth 8192 in
/-- `main_call0_call0_v142`'s composed term of the arguments (named: it is used 2 times). -/
def res_main_call0_call0_v142 (V0 : Valuation τ sig (Elt F)) : (Proc.devRef .tc main_call0_call0_v142 : DevRef τ sig).ty.Contents (Elt F) :=
  addi (addi (res_main_call0_call0_v129 V0) (broadcastInDim S1x1024x50257 ![] bcast_S_S1x1024x50257 (res_main_call0_v7 V0))) (res_main_call0_call0_v141 V0)

set_option maxRecDepth 8192 in
/-- `main_call0_call0_v148`'s composed term of the arguments (named: it is used 3 times). -/
def res_main_call0_call0_v148 (V0 : Valuation τ sig (Elt F)) : (Proc.devRef .tc main_call0_call0_v148 : DevRef τ sig).ty.Contents (Elt F) :=
  xori (res_main_call0_call0_v142 V0) (ori (Host.shli (res_main_call0_call0_v141 V0) (broadcastInDim S1x1024x50257 ![] bcast_S_S1x1024x50257 (constantI S_ 32 13#32))) (Host.shrui (res_main_call0_call0_v141 V0) (broadcastInDim S1x1024x50257 ![] bcast_S_S1x1024x50257 (constantI S_ 32 19#32))))

set_option maxRecDepth 8192 in
/-- `main_call0_call0_v149`'s composed term of the arguments (named: it is used 2 times). -/
def res_main_call0_call0_v149 (V0 : Valuation τ sig (Elt F)) : (Proc.devRef .tc main_call0_call0_v149 : DevRef τ sig).ty.Contents (Elt F) :=
  addi (res_main_call0_call0_v142 V0) (res_main_call0_call0_v148 V0)

set_option maxRecDepth 8192 in
/-- `main_call0_call0_v155`'s composed term of the arguments (named: it is used 3 times). -/
def res_main_call0_call0_v155 (V0 : Valuation τ sig (Elt F)) : (Proc.devRef .tc main_call0_call0_v155 : DevRef τ sig).ty.Contents (Elt F) :=
  xori (res_main_call0_call0_v149 V0) (ori (Host.shli (res_main_call0_call0_v148 V0) (broadcastInDim S1x1024x50257 ![] bcast_S_S1x1024x50257 (constantI S_ 32 15#32))) (Host.shrui (res_main_call0_call0_v148 V0) (broadcastInDim S1x1024x50257 ![] bcast_S_S1x1024x50257 (constantI S_ 32 17#32))))

set_option maxRecDepth 8192 in
/-- `main_call0_call0_v156`'s composed term of the arguments (named: it is used 2 times). -/
def res_main_call0_call0_v156 (V0 : Valuation τ sig (Elt F)) : (Proc.devRef .tc main_call0_call0_v156 : DevRef τ sig).ty.Contents (Elt F) :=
  addi (res_main_call0_call0_v149 V0) (res_main_call0_call0_v155 V0)

set_option maxRecDepth 8192 in
/-- `main_call0_call0_v162`'s composed term of the arguments (named: it is used 3 times). -/
def res_main_call0_call0_v162 (V0 : Valuation τ sig (Elt F)) : (Proc.devRef .tc main_call0_call0_v162 : DevRef τ sig).ty.Contents (Elt F) :=
  xori (res_main_call0_call0_v156 V0) (ori (Host.shli (res_main_call0_call0_v155 V0) (broadcastInDim S1x1024x50257 ![] bcast_S_S1x1024x50257 (constantI S_ 32 26#32))) (Host.shrui (res_main_call0_call0_v155 V0) (broadcastInDim S1x1024x50257 ![] bcast_S_S1x1024x50257 (constantI S_ 32 6#32))))

set_option maxRecDepth 8192 in
/-- `main_call0_call0_v163`'s composed term of the arguments (named: it is used 2 times). -/
def res_main_call0_call0_v163 (V0 : Valuation τ sig (Elt F)) : (Proc.devRef .tc main_call0_call0_v163 : DevRef τ sig).ty.Contents (Elt F) :=
  addi (res_main_call0_call0_v156 V0) (res_main_call0_call0_v162 V0)

set_option maxRecDepth 8192 in
/-- `main_v20`'s composed term of the arguments (named: it is used 2 times). -/
def res_main_v20 (V0 : Valuation τ sig (Elt F)) : (Proc.devRef .tc main_v20 : DevRef τ sig).ty.Contents (Elt F) :=
  Host.divf (addf (V0 (Proc.devRef .tc main_arg0)) (Host.negf (Host.log (Host.negf (Host.log (maximumf (broadcastInDim S1x1024x50257 ![] bcast_S_S1x1024x50257 (constant S_ .f32 0x3089705F#32)) (addf (mulf (maximumf (broadcastInDim S1x1024x50257 ![0, 1, 2] bcast_S1x1x1_S1x1024x50257_0_1_2 (res_main_call0_v2 V0)) (addf (mulf (subf (bitcastToFloat (F := F) .f32 (ori (Host.shrui (xori (addi (res_main_call0_call0_v163 V0) (broadcastInDim S1x1024x50257 ![] bcast_S_S1x1024x50257 (res_main_call0_call0_v1 V0))) (addi (addi (xori (res_main_call0_call0_v163 V0) (ori (Host.shli (res_main_call0_call0_v162 V0) (broadcastInDim S1x1024x50257 ![] bcast_S_S1x1024x50257 (constantI S_ 32 6#32))) (Host.shrui (res_main_call0_call0_v162 V0) (broadcastInDim S1x1024x50257 ![] bcast_S_S1x1024x50257 (constantI S_ 32 26#32))))) (broadcastInDim S1x1024x50257 ![] bcast_S_S1x1024x50257 (res_main_call0_v5 V0))) (broadcastInDim S1x1024x50257 ![] bcast_S_S1x1024x50257 (constantI S_ 32 5#32)))) (broadcastInDim S1x1024x50257 ![] bcast_S_S1x1024x50257 (constantI S_ 32 9#32))) (broadcastInDim S1x1024x50257 ![] bcast_S_S1x1024x50257 (constantI S_ 32 1065353216#32)))) (broadcastInDim S1x1024x50257 ![] bcast_S_S1x1024x50257 (constant S_ .f32 0x3F800000#32))) (broadcastInDim S1x1024x50257 ![0, 1, 2] bcast_S1x1x1_S1x1024x50257_0_1_2 (subf (broadcastInDim S1x1x1 ![] bcast_S_S1x1x1 (id (constant S_ .f32 0x3F800000#32))) (res_main_call0_v2 V0)))) (broadcastInDim S1x1024x50257 ![0, 1, 2] bcast_S1x1x1_S1x1024x50257_0_1_2 (res_main_call0_v2 V0)))) (broadcastInDim S1x1024x50257 ![] bcast_S_S1x1024x50257 (constant S_ .f32 0x3F800000#32))) (broadcastInDim S1x1024x50257 ![] bcast_S_S1x1024x50257 (constant S_ .f32 0x3089705F#32))))))))) (broadcastInDim S1x1024x50257 ![] bcast_S_S1x1024x50257 (constant S_ .f32 0x3F800000#32))

set_option maxRecDepth 8192 in
/-- `main_v27`'s composed term of the arguments (named: it is used 2 times). -/
def res_main_v27 (V0 : Valuation τ sig (Elt F)) : (Proc.devRef .tc main_v27 : DevRef τ sig).ty.Contents (Elt F) :=
  Host.exp (subf (res_main_v20 V0) (broadcastInDim S1x1024x50257 ![0, 1, 2] bcast_S1x1024x1_S1x1024x50257_0_1_2 (broadcastInDim S1x1024x1 ![0, 1] bcast_S1x1024_S1x1024x1_0_1 (maximumf (broadcastInDim S1x1024 ![] bcast_S_S1x1024 (constant S_ .f32 0xFF800000#32)) (Host.reduce FloatOps.maximumf (res_main_v20 V0) (constant S_ .f32 0xFF800000#32) reducesTo_S1x1024x50257_S1x1024_d2 h_S_)))))

set_option maxRecDepth 8192 in
/-- `main_v31`'s composed term of the arguments (named: it is used 4 times). -/
def res_main_v31 (V0 : Valuation τ sig (Elt F)) : (Proc.devRef .tc main_v31 : DevRef τ sig).ty.Contents (Elt F) :=
  Host.divf (res_main_v27 V0) (broadcastInDim S1x1024x50257 ![0, 1, 2] bcast_S1x1024x1_S1x1024x50257_0_1_2 (broadcastInDim S1x1024x1 ![0, 1] bcast_S1x1024_S1x1024x1_0_1 (Host.reduceAdd (res_main_v27 V0) (constant S_ .f32 0x00000000#32) reducesTo_S1x1024x50257_S1x1024_d2 h_S_)))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S1x1024x50257 32 2

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

/-- The device's buffer contents before @main's first operation. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl

/-- The device's buffer contents after @main's first 30 operations. -/
def val0_1 (V0 : Valuation τ sig (Elt F)) : Valuation τ sig (Elt F) := after ops_0 (val0 V0)
/-- The buffers that window `ops_0`'s operations write. -/
abbrev ops_0_W : List (Ref sig .tc) := [main_c, main_c_0, main_v0, main_v1, main_v2, main_c_1, main_v3, main_v4, main_v5, main_v6, main_cst, main_cst_2, main_call0_v0, main_call0_v1, main_call0_v2, main_call0_v3, main_call0_v4, main_call0_v5, main_call0_v6, main_call0_v7, main_call0_v8, main_call0_v9, main_call0_v10, main_call0_c, main_call0_v11, main_call0_v12, main_call0_c_0, main_call0_v13, main_call0_v14, main_call0_c_1]
set_option maxRecDepth 8192 in
theorem ops_0_writes : (ops_0 : List (HloOp τ sig (Elt F))).Forall fun op => op.writes ⊆ (ops_0_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_0` does not write keeps its contents through it. -/
theorem val0_1_keep (V0 : Valuation τ sig (Elt F)) (r : Ref sig .tc) (h : r ∉ ops_0_W) :
    val0_1 V0 (Proc.devRef .tc r) = val0 V0 (Proc.devRef .tc r) :=
  after_of_writes_sub ops_0 _ ops_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
set_option maxRecDepth 8192 in
set_option maxHeartbeats 2000000 in
theorem val0_1_main_call0_v2 (V0 : Valuation τ sig (Elt F)) : val0_1 V0 (no_index (Proc.devRef .tc main_call0_v2)) = res_main_call0_v2 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v3 (V0 : Valuation τ sig (Elt F)) : val0_1 V0 (no_index (Proc.devRef .tc main_call0_v3)) = broadcastInDim S1x1x1 ![] bcast_S_S1x1x1 (id (constant S_ .f32 0x3F800000#32)) := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v5 (V0 : Valuation τ sig (Elt F)) : val0_1 V0 (no_index (Proc.devRef .tc main_call0_v5)) = res_main_call0_v5 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v7 (V0 : Valuation τ sig (Elt F)) : val0_1 V0 (no_index (Proc.devRef .tc main_call0_v7)) = res_main_call0_v7 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v10 (V0 : Valuation τ sig (Elt F)) : val0_1 V0 (no_index (Proc.devRef .tc main_call0_v10)) = iotaInDim S1x1024x50257 64 2 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v12 (V0 : Valuation τ sig (Elt F)) : val0_1 V0 (no_index (Proc.devRef .tc main_call0_v12)) = muli (broadcastInDim S1x1024x50257 ![] bcast_S_S1x1024x50257 (constantI S_ 64 51463168#64)) (iotaInDim S1x1024x50257 64 0) := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v14 (V0 : Valuation τ sig (Elt F)) : val0_1 V0 (no_index (Proc.devRef .tc main_call0_v14)) = muli (broadcastInDim S1x1024x50257 ![] bcast_S_S1x1024x50257 (constantI S_ 64 50257#64)) (iotaInDim S1x1024x50257 64 1) := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_c_1 (V0 : Valuation τ sig (Elt F)) : val0_1 V0 (no_index (Proc.devRef .tc main_call0_c_1)) = constantI S_ 64 1#64 := by
  unfold val0_1
  simp only [ops_0, TRef.binary, TRef.nullary, TRef.reshape, TRef.unary, TRef.toBuf, TRef.ofBuf, cast_eq]
  after_results_simp
  all_goals rfl

/-- The device's buffer contents after @main's first 60 operations. -/
def val0_2 (V0 : Valuation τ sig (Elt F)) : Valuation τ sig (Elt F) := after ops_1 (val0_1 V0)
/-- The buffers that window `ops_1`'s operations write. -/
abbrev ops_1_W : List (Ref sig .tc) := [main_call0_v15, main_call0_v16, main_call0_v17, main_call0_v18, main_call0_c_2, main_call0_v19, main_call0_v20, main_call0_v21, main_call0_v22, main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3]
set_option maxRecDepth 8192 in
theorem ops_1_writes : (ops_1 : List (HloOp τ sig (Elt F))).Forall fun op => op.writes ⊆ (ops_1_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_1` does not write keeps its contents through it. -/
theorem val0_2_keep (V0 : Valuation τ sig (Elt F)) (r : Ref sig .tc) (h : r ∉ ops_1_W) :
    val0_2 V0 (Proc.devRef .tc r) = val0_1 V0 (Proc.devRef .tc r) :=
  after_of_writes_sub ops_1 _ ops_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_call0_v2 (V0 : Valuation τ sig (Elt F)) : val0_2 V0 (no_index (Proc.devRef .tc main_call0_v2)) = res_main_call0_v2 V0 :=
  (val0_2_keep V0 main_call0_v2 (by decide)).trans (val0_1_main_call0_v2 V0)
theorem val0_2_main_call0_v3 (V0 : Valuation τ sig (Elt F)) : val0_2 V0 (no_index (Proc.devRef .tc main_call0_v3)) = broadcastInDim S1x1x1 ![] bcast_S_S1x1x1 (id (constant S_ .f32 0x3F800000#32)) :=
  (val0_2_keep V0 main_call0_v3 (by decide)).trans (val0_1_main_call0_v3 V0)
theorem val0_2_main_call0_v5 (V0 : Valuation τ sig (Elt F)) : val0_2 V0 (no_index (Proc.devRef .tc main_call0_v5)) = res_main_call0_v5 V0 :=
  (val0_2_keep V0 main_call0_v5 (by decide)).trans (val0_1_main_call0_v5 V0)
theorem val0_2_main_call0_v7 (V0 : Valuation τ sig (Elt F)) : val0_2 V0 (no_index (Proc.devRef .tc main_call0_v7)) = res_main_call0_v7 V0 :=
  (val0_2_keep V0 main_call0_v7 (by decide)).trans (val0_1_main_call0_v7 V0)
set_option maxRecDepth 8192 in
set_option maxHeartbeats 2000000 in
theorem val0_2_main_call0_call0_v1 (V0 : Valuation τ sig (Elt F)) : val0_2 V0 (no_index (Proc.devRef .tc main_call0_call0_v1)) = res_main_call0_call0_v1 V0 := by
  unfold val0_2
  simp only [ops_1, TRef.binary, TRef.nullary, TRef.unary, TRef.toBuf, TRef.ofBuf, cast_eq]
  after_results_simp
  simp only [val0_1_main_call0_v7, val0_1_main_call0_v5] <;> rfl
set_option maxRecDepth 8192 in
set_option maxHeartbeats 2000000 in
theorem val0_2_main_call0_call0_v12 (V0 : Valuation τ sig (Elt F)) : val0_2 V0 (no_index (Proc.devRef .tc main_call0_call0_v12)) = res_main_call0_call0_v12 V0 := by
  unfold val0_2
  simp only [ops_1, TRef.binary, TRef.nullary, TRef.unary, TRef.toBuf, TRef.ofBuf, cast_eq]
  after_results_simp
  simp only [val0_1_main_call0_v7, val0_1_main_call0_v10, val0_1_main_call0_c_1, val0_1_main_call0_v14, val0_1_main_call0_v12, val0_1_main_call0_v5] <;> rfl
set_option maxRecDepth 8192 in
set_option maxHeartbeats 2000000 in
theorem val0_2_main_call0_call0_v13 (V0 : Valuation τ sig (Elt F)) : val0_2 V0 (no_index (Proc.devRef .tc main_call0_call0_v13)) = res_main_call0_call0_v13 V0 := by
  unfold val0_2
  simp only [ops_1, TRef.binary, TRef.nullary, TRef.unary, TRef.toBuf, TRef.ofBuf, cast_eq]
  after_results_simp
  simp only [val0_1_main_call0_v7, val0_1_main_call0_v10, val0_1_main_call0_c_1, val0_1_main_call0_v14, val0_1_main_call0_v12, val0_1_main_call0_v5] <;> rfl
set_option maxRecDepth 8192 in
set_option maxHeartbeats 2000000 in
theorem val0_2_main_call0_call0_v15 (V0 : Valuation τ sig (Elt F)) : val0_2 V0 (no_index (Proc.devRef .tc main_call0_call0_v15)) = Host.shli (res_main_call0_call0_v12 V0) (broadcastInDim S1x1024x50257 ![] bcast_S_S1x1024x50257 (constantI S_ 32 15#32)) := by
  unfold val0_2
  simp only [ops_1, TRef.binary, TRef.nullary, TRef.unary, TRef.toBuf, TRef.ofBuf, cast_eq]
  after_results_simp
  simp only [val0_1_main_call0_v7, val0_1_main_call0_v10, val0_1_main_call0_c_1, val0_1_main_call0_v14, val0_1_main_call0_v12, val0_1_main_call0_v5] <;> rfl
set_option maxRecDepth 8192 in
set_option maxHeartbeats 2000000 in
theorem val0_2_main_call0_call0_c_3 (V0 : Valuation τ sig (Elt F)) : val0_2 V0 (no_index (Proc.devRef .tc main_call0_call0_c_3)) = constantI S_ 32 17#32 := by
  unfold val0_2
  simp only [ops_1, TRef.binary, TRef.nullary, TRef.unary, TRef.toBuf, TRef.ofBuf, cast_eq]
  after_results_simp
  all_goals rfl

/-- The device's buffer contents after @main's first 90 operations. -/
def val0_3 (V0 : Valuation τ sig (Elt F)) : Valuation τ sig (Elt F) := after ops_2 (val0_2 V0)
/-- The buffers that window `ops_2`'s operations write. -/
abbrev ops_2_W : List (Ref sig .tc) := [main_call0_call0_v16, main_call0_call0_v17, main_call0_call0_v18, main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40]
set_option maxRecDepth 8192 in
theorem ops_2_writes : (ops_2 : List (HloOp τ sig (Elt F))).Forall fun op => op.writes ⊆ (ops_2_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_2` does not write keeps its contents through it. -/
theorem val0_3_keep (V0 : Valuation τ sig (Elt F)) (r : Ref sig .tc) (h : r ∉ ops_2_W) :
    val0_3 V0 (Proc.devRef .tc r) = val0_2 V0 (Proc.devRef .tc r) :=
  after_of_writes_sub ops_2 _ ops_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_call0_v2 (V0 : Valuation τ sig (Elt F)) : val0_3 V0 (no_index (Proc.devRef .tc main_call0_v2)) = res_main_call0_v2 V0 :=
  (val0_3_keep V0 main_call0_v2 (by decide)).trans (val0_2_main_call0_v2 V0)
theorem val0_3_main_call0_v3 (V0 : Valuation τ sig (Elt F)) : val0_3 V0 (no_index (Proc.devRef .tc main_call0_v3)) = broadcastInDim S1x1x1 ![] bcast_S_S1x1x1 (id (constant S_ .f32 0x3F800000#32)) :=
  (val0_3_keep V0 main_call0_v3 (by decide)).trans (val0_2_main_call0_v3 V0)
theorem val0_3_main_call0_v5 (V0 : Valuation τ sig (Elt F)) : val0_3 V0 (no_index (Proc.devRef .tc main_call0_v5)) = res_main_call0_v5 V0 :=
  (val0_3_keep V0 main_call0_v5 (by decide)).trans (val0_2_main_call0_v5 V0)
theorem val0_3_main_call0_v7 (V0 : Valuation τ sig (Elt F)) : val0_3 V0 (no_index (Proc.devRef .tc main_call0_v7)) = res_main_call0_v7 V0 :=
  (val0_3_keep V0 main_call0_v7 (by decide)).trans (val0_2_main_call0_v7 V0)
theorem val0_3_main_call0_call0_v1 (V0 : Valuation τ sig (Elt F)) : val0_3 V0 (no_index (Proc.devRef .tc main_call0_call0_v1)) = res_main_call0_call0_v1 V0 :=
  (val0_3_keep V0 main_call0_call0_v1 (by decide)).trans (val0_2_main_call0_call0_v1 V0)
set_option maxRecDepth 8192 in
set_option maxHeartbeats 2000000 in
theorem val0_3_main_call0_call0_v39 (V0 : Valuation τ sig (Elt F)) : val0_3 V0 (no_index (Proc.devRef .tc main_call0_call0_v39)) = res_main_call0_call0_v39 V0 := by
  unfold val0_3
  simp only [ops_2, TRef.binary, TRef.nullary, TRef.unary, TRef.toBuf, TRef.ofBuf, cast_eq]
  after_results_simp
  simp only [val0_2_main_call0_call0_v1, val0_2_main_call0_call0_c_3, val0_2_main_call0_call0_v12, val0_2_main_call0_call0_v15, val0_2_main_call0_call0_v13] <;> rfl
set_option maxRecDepth 8192 in
set_option maxHeartbeats 2000000 in
theorem val0_3_main_call0_call0_v40 (V0 : Valuation τ sig (Elt F)) : val0_3 V0 (no_index (Proc.devRef .tc main_call0_call0_v40)) = res_main_call0_call0_v40 V0 := by
  unfold val0_3
  simp only [ops_2, TRef.binary, TRef.nullary, TRef.unary, TRef.toBuf, TRef.ofBuf, cast_eq]
  after_results_simp
  simp only [val0_2_main_call0_call0_v1, val0_2_main_call0_call0_c_3, val0_2_main_call0_call0_v12, val0_2_main_call0_call0_v15, val0_2_main_call0_call0_v13, val0_2_main_call0_v7] <;> rfl

/-- The device's buffer contents after @main's first 120 operations. -/
def val0_4 (V0 : Valuation τ sig (Elt F)) : Valuation τ sig (Elt F) := after ops_3 (val0_3 V0)
/-- The buffers that window `ops_3`'s operations write. -/
abbrev ops_3_W : List (Ref sig .tc) := [main_call0_call0_c_9, main_call0_call0_v41, main_call0_call0_v42, main_call0_call0_c_10, main_call0_call0_v43, main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63]
set_option maxRecDepth 8192 in
theorem ops_3_writes : (ops_3 : List (HloOp τ sig (Elt F))).Forall fun op => op.writes ⊆ (ops_3_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_3` does not write keeps its contents through it. -/
theorem val0_4_keep (V0 : Valuation τ sig (Elt F)) (r : Ref sig .tc) (h : r ∉ ops_3_W) :
    val0_4 V0 (Proc.devRef .tc r) = val0_3 V0 (Proc.devRef .tc r) :=
  after_of_writes_sub ops_3 _ ops_3_writes h
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
theorem val0_4_main_call0_v2 (V0 : Valuation τ sig (Elt F)) : val0_4 V0 (no_index (Proc.devRef .tc main_call0_v2)) = res_main_call0_v2 V0 :=
  (val0_4_keep V0 main_call0_v2 (by decide)).trans (val0_3_main_call0_v2 V0)
theorem val0_4_main_call0_v3 (V0 : Valuation τ sig (Elt F)) : val0_4 V0 (no_index (Proc.devRef .tc main_call0_v3)) = broadcastInDim S1x1x1 ![] bcast_S_S1x1x1 (id (constant S_ .f32 0x3F800000#32)) :=
  (val0_4_keep V0 main_call0_v3 (by decide)).trans (val0_3_main_call0_v3 V0)
theorem val0_4_main_call0_v5 (V0 : Valuation τ sig (Elt F)) : val0_4 V0 (no_index (Proc.devRef .tc main_call0_v5)) = res_main_call0_v5 V0 :=
  (val0_4_keep V0 main_call0_v5 (by decide)).trans (val0_3_main_call0_v5 V0)
theorem val0_4_main_call0_v7 (V0 : Valuation τ sig (Elt F)) : val0_4 V0 (no_index (Proc.devRef .tc main_call0_v7)) = res_main_call0_v7 V0 :=
  (val0_4_keep V0 main_call0_v7 (by decide)).trans (val0_3_main_call0_v7 V0)
theorem val0_4_main_call0_call0_v1 (V0 : Valuation τ sig (Elt F)) : val0_4 V0 (no_index (Proc.devRef .tc main_call0_call0_v1)) = res_main_call0_call0_v1 V0 :=
  (val0_4_keep V0 main_call0_call0_v1 (by decide)).trans (val0_3_main_call0_call0_v1 V0)
set_option maxRecDepth 8192 in
set_option maxHeartbeats 2000000 in
theorem val0_4_main_call0_call0_v60 (V0 : Valuation τ sig (Elt F)) : val0_4 V0 (no_index (Proc.devRef .tc main_call0_call0_v60)) = res_main_call0_call0_v60 V0 := by
  unfold val0_4
  simp only [ops_3, TRef.binary, TRef.nullary, TRef.unary, TRef.toBuf, TRef.ofBuf, cast_eq]
  after_results_simp
  simp only [val0_3_main_call0_call0_v39, val0_3_main_call0_call0_v40] <;> rfl
set_option maxRecDepth 8192 in
set_option maxHeartbeats 2000000 in
theorem val0_4_main_call0_call0_v61 (V0 : Valuation τ sig (Elt F)) : val0_4 V0 (no_index (Proc.devRef .tc main_call0_call0_v61)) = res_main_call0_call0_v61 V0 := by
  unfold val0_4
  simp only [ops_3, TRef.binary, TRef.nullary, TRef.unary, TRef.toBuf, TRef.ofBuf, cast_eq]
  after_results_simp
  simp only [val0_3_main_call0_call0_v39, val0_3_main_call0_call0_v40] <;> rfl
set_option maxRecDepth 8192 in
set_option maxHeartbeats 2000000 in
theorem val0_4_main_call0_call0_v63 (V0 : Valuation τ sig (Elt F)) : val0_4 V0 (no_index (Proc.devRef .tc main_call0_call0_v63)) = Host.shli (res_main_call0_call0_v60 V0) (broadcastInDim S1x1024x50257 ![] bcast_S_S1x1024x50257 (constantI S_ 32 24#32)) := by
  unfold val0_4
  simp only [ops_3, TRef.binary, TRef.nullary, TRef.unary, TRef.toBuf, TRef.ofBuf, cast_eq]
  after_results_simp
  simp only [val0_3_main_call0_call0_v39, val0_3_main_call0_call0_v40] <;> rfl

/-- The device's buffer contents after @main's first 150 operations. -/
def val0_5 (V0 : Valuation τ sig (Elt F)) : Valuation τ sig (Elt F) := after ops_4 (val0_4 V0)
/-- The buffers that window `ops_4`'s operations write. -/
abbrev ops_4_W : List (Ref sig .tc) := [main_call0_call0_c_16, main_call0_call0_v64, main_call0_call0_v65, main_call0_call0_v66, main_call0_call0_v67, main_call0_call0_v68, main_call0_call0_v69, main_call0_call0_v70, main_call0_call0_v71, main_call0_call0_c_17, main_call0_call0_v72, main_call0_call0_v73, main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87]
set_option maxRecDepth 8192 in
theorem ops_4_writes : (ops_4 : List (HloOp τ sig (Elt F))).Forall fun op => op.writes ⊆ (ops_4_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_4` does not write keeps its contents through it. -/
theorem val0_5_keep (V0 : Valuation τ sig (Elt F)) (r : Ref sig .tc) (h : r ∉ ops_4_W) :
    val0_5 V0 (Proc.devRef .tc r) = val0_4 V0 (Proc.devRef .tc r) :=
  after_of_writes_sub ops_4 _ ops_4_writes h
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
theorem val0_5_main_call0_v2 (V0 : Valuation τ sig (Elt F)) : val0_5 V0 (no_index (Proc.devRef .tc main_call0_v2)) = res_main_call0_v2 V0 :=
  (val0_5_keep V0 main_call0_v2 (by decide)).trans (val0_4_main_call0_v2 V0)
theorem val0_5_main_call0_v3 (V0 : Valuation τ sig (Elt F)) : val0_5 V0 (no_index (Proc.devRef .tc main_call0_v3)) = broadcastInDim S1x1x1 ![] bcast_S_S1x1x1 (id (constant S_ .f32 0x3F800000#32)) :=
  (val0_5_keep V0 main_call0_v3 (by decide)).trans (val0_4_main_call0_v3 V0)
theorem val0_5_main_call0_v5 (V0 : Valuation τ sig (Elt F)) : val0_5 V0 (no_index (Proc.devRef .tc main_call0_v5)) = res_main_call0_v5 V0 :=
  (val0_5_keep V0 main_call0_v5 (by decide)).trans (val0_4_main_call0_v5 V0)
theorem val0_5_main_call0_v7 (V0 : Valuation τ sig (Elt F)) : val0_5 V0 (no_index (Proc.devRef .tc main_call0_v7)) = res_main_call0_v7 V0 :=
  (val0_5_keep V0 main_call0_v7 (by decide)).trans (val0_4_main_call0_v7 V0)
theorem val0_5_main_call0_call0_v1 (V0 : Valuation τ sig (Elt F)) : val0_5 V0 (no_index (Proc.devRef .tc main_call0_call0_v1)) = res_main_call0_call0_v1 V0 :=
  (val0_5_keep V0 main_call0_call0_v1 (by decide)).trans (val0_4_main_call0_call0_v1 V0)
set_option maxRecDepth 8192 in
set_option maxHeartbeats 2000000 in
theorem val0_5_main_call0_call0_v81 (V0 : Valuation τ sig (Elt F)) : val0_5 V0 (no_index (Proc.devRef .tc main_call0_call0_v81)) = res_main_call0_call0_v81 V0 := by
  unfold val0_5
  simp only [ops_4, TRef.binary, TRef.nullary, TRef.unary, TRef.toBuf, TRef.ofBuf, cast_eq]
  after_results_simp
  simp only [val0_4_main_call0_v5, val0_4_main_call0_call0_v60, val0_4_main_call0_call0_v63, val0_4_main_call0_call0_v61, val0_4_main_call0_call0_v1] <;> rfl
set_option maxRecDepth 8192 in
set_option maxHeartbeats 2000000 in
theorem val0_5_main_call0_call0_v87 (V0 : Valuation τ sig (Elt F)) : val0_5 V0 (no_index (Proc.devRef .tc main_call0_call0_v87)) = res_main_call0_call0_v87 V0 := by
  unfold val0_5
  simp only [ops_4, TRef.binary, TRef.nullary, TRef.unary, TRef.toBuf, TRef.ofBuf, cast_eq]
  after_results_simp
  simp only [val0_4_main_call0_v5, val0_4_main_call0_call0_v60, val0_4_main_call0_call0_v63, val0_4_main_call0_call0_v61, val0_4_main_call0_call0_v1] <;> rfl

/-- The device's buffer contents after @main's first 180 operations. -/
def val0_6 (V0 : Valuation τ sig (Elt F)) : Valuation τ sig (Elt F) := after ops_5 (val0_5 V0)
/-- The buffers that window `ops_5`'s operations write. -/
abbrev ops_5_W : List (Ref sig .tc) := [main_call0_call0_v88, main_call0_call0_c_22, main_call0_call0_v89, main_call0_call0_v90, main_call0_call0_c_23, main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28]
set_option maxRecDepth 8192 in
theorem ops_5_writes : (ops_5 : List (HloOp τ sig (Elt F))).Forall fun op => op.writes ⊆ (ops_5_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_5` does not write keeps its contents through it. -/
theorem val0_6_keep (V0 : Valuation τ sig (Elt F)) (r : Ref sig .tc) (h : r ∉ ops_5_W) :
    val0_6 V0 (Proc.devRef .tc r) = val0_5 V0 (Proc.devRef .tc r) :=
  after_of_writes_sub ops_5 _ ops_5_writes h
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
theorem val0_6_main_call0_v2 (V0 : Valuation τ sig (Elt F)) : val0_6 V0 (no_index (Proc.devRef .tc main_call0_v2)) = res_main_call0_v2 V0 :=
  (val0_6_keep V0 main_call0_v2 (by decide)).trans (val0_5_main_call0_v2 V0)
theorem val0_6_main_call0_v3 (V0 : Valuation τ sig (Elt F)) : val0_6 V0 (no_index (Proc.devRef .tc main_call0_v3)) = broadcastInDim S1x1x1 ![] bcast_S_S1x1x1 (id (constant S_ .f32 0x3F800000#32)) :=
  (val0_6_keep V0 main_call0_v3 (by decide)).trans (val0_5_main_call0_v3 V0)
theorem val0_6_main_call0_v5 (V0 : Valuation τ sig (Elt F)) : val0_6 V0 (no_index (Proc.devRef .tc main_call0_v5)) = res_main_call0_v5 V0 :=
  (val0_6_keep V0 main_call0_v5 (by decide)).trans (val0_5_main_call0_v5 V0)
theorem val0_6_main_call0_v7 (V0 : Valuation τ sig (Elt F)) : val0_6 V0 (no_index (Proc.devRef .tc main_call0_v7)) = res_main_call0_v7 V0 :=
  (val0_6_keep V0 main_call0_v7 (by decide)).trans (val0_5_main_call0_v7 V0)
theorem val0_6_main_call0_call0_v1 (V0 : Valuation τ sig (Elt F)) : val0_6 V0 (no_index (Proc.devRef .tc main_call0_call0_v1)) = res_main_call0_call0_v1 V0 :=
  (val0_6_keep V0 main_call0_call0_v1 (by decide)).trans (val0_5_main_call0_call0_v1 V0)
set_option maxRecDepth 8192 in
set_option maxHeartbeats 2000000 in
theorem val0_6_main_call0_call0_v107 (V0 : Valuation τ sig (Elt F)) : val0_6 V0 (no_index (Proc.devRef .tc main_call0_call0_v107)) = res_main_call0_call0_v107 V0 := by
  unfold val0_6
  simp only [ops_5, TRef.binary, TRef.nullary, TRef.unary, TRef.toBuf, TRef.ofBuf, cast_eq]
  after_results_simp
  simp only [val0_5_main_call0_v7, val0_5_main_call0_call0_v87, val0_5_main_call0_call0_v81] <;> rfl
set_option maxRecDepth 8192 in
set_option maxHeartbeats 2000000 in
theorem val0_6_main_call0_call0_v108 (V0 : Valuation τ sig (Elt F)) : val0_6 V0 (no_index (Proc.devRef .tc main_call0_call0_v108)) = res_main_call0_call0_v108 V0 := by
  unfold val0_6
  simp only [ops_5, TRef.binary, TRef.nullary, TRef.unary, TRef.toBuf, TRef.ofBuf, cast_eq]
  after_results_simp
  simp only [val0_5_main_call0_v7, val0_5_main_call0_call0_v87, val0_5_main_call0_call0_v81, val0_5_main_call0_v5] <;> rfl
set_option maxRecDepth 8192 in
set_option maxHeartbeats 2000000 in
theorem val0_6_main_call0_call0_v110 (V0 : Valuation τ sig (Elt F)) : val0_6 V0 (no_index (Proc.devRef .tc main_call0_call0_v110)) = Host.shli (res_main_call0_call0_v107 V0) (broadcastInDim S1x1024x50257 ![] bcast_S_S1x1024x50257 (constantI S_ 32 17#32)) := by
  unfold val0_6
  simp only [ops_5, TRef.binary, TRef.nullary, TRef.unary, TRef.toBuf, TRef.ofBuf, cast_eq]
  after_results_simp
  simp only [val0_5_main_call0_v7, val0_5_main_call0_call0_v87, val0_5_main_call0_call0_v81] <;> rfl
set_option maxRecDepth 8192 in
set_option maxHeartbeats 2000000 in
theorem val0_6_main_call0_call0_c_28 (V0 : Valuation τ sig (Elt F)) : val0_6 V0 (no_index (Proc.devRef .tc main_call0_call0_c_28)) = constantI S_ 32 15#32 := by
  unfold val0_6
  simp only [ops_5, TRef.binary, TRef.nullary, TRef.unary, TRef.toBuf, TRef.ofBuf, cast_eq]
  after_results_simp
  all_goals rfl

/-- The device's buffer contents after @main's first 210 operations. -/
def val0_7 (V0 : Valuation τ sig (Elt F)) : Valuation τ sig (Elt F) := after ops_6 (val0_6 V0)
/-- The buffers that window `ops_6`'s operations write. -/
abbrev ops_6_W : List (Ref sig .tc) := [main_call0_call0_v111, main_call0_call0_v112, main_call0_call0_v113, main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134]
set_option maxRecDepth 8192 in
theorem ops_6_writes : (ops_6 : List (HloOp τ sig (Elt F))).Forall fun op => op.writes ⊆ (ops_6_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_6` does not write keeps its contents through it. -/
theorem val0_7_keep (V0 : Valuation τ sig (Elt F)) (r : Ref sig .tc) (h : r ∉ ops_6_W) :
    val0_7 V0 (Proc.devRef .tc r) = val0_6 V0 (Proc.devRef .tc r) :=
  after_of_writes_sub ops_6 _ ops_6_writes h
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
theorem val0_7_main_call0_v2 (V0 : Valuation τ sig (Elt F)) : val0_7 V0 (no_index (Proc.devRef .tc main_call0_v2)) = res_main_call0_v2 V0 :=
  (val0_7_keep V0 main_call0_v2 (by decide)).trans (val0_6_main_call0_v2 V0)
theorem val0_7_main_call0_v3 (V0 : Valuation τ sig (Elt F)) : val0_7 V0 (no_index (Proc.devRef .tc main_call0_v3)) = broadcastInDim S1x1x1 ![] bcast_S_S1x1x1 (id (constant S_ .f32 0x3F800000#32)) :=
  (val0_7_keep V0 main_call0_v3 (by decide)).trans (val0_6_main_call0_v3 V0)
theorem val0_7_main_call0_v5 (V0 : Valuation τ sig (Elt F)) : val0_7 V0 (no_index (Proc.devRef .tc main_call0_v5)) = res_main_call0_v5 V0 :=
  (val0_7_keep V0 main_call0_v5 (by decide)).trans (val0_6_main_call0_v5 V0)
theorem val0_7_main_call0_v7 (V0 : Valuation τ sig (Elt F)) : val0_7 V0 (no_index (Proc.devRef .tc main_call0_v7)) = res_main_call0_v7 V0 :=
  (val0_7_keep V0 main_call0_v7 (by decide)).trans (val0_6_main_call0_v7 V0)
theorem val0_7_main_call0_call0_v1 (V0 : Valuation τ sig (Elt F)) : val0_7 V0 (no_index (Proc.devRef .tc main_call0_call0_v1)) = res_main_call0_call0_v1 V0 :=
  (val0_7_keep V0 main_call0_call0_v1 (by decide)).trans (val0_6_main_call0_call0_v1 V0)
set_option maxRecDepth 8192 in
set_option maxHeartbeats 2000000 in
theorem val0_7_main_call0_call0_v129 (V0 : Valuation τ sig (Elt F)) : val0_7 V0 (no_index (Proc.devRef .tc main_call0_call0_v129)) = res_main_call0_call0_v129 V0 := by
  unfold val0_7
  simp only [ops_6, TRef.binary, TRef.nullary, TRef.unary, TRef.toBuf, TRef.ofBuf, cast_eq]
  after_results_simp
  simp only [val0_6_main_call0_call0_c_28, val0_6_main_call0_call0_v107, val0_6_main_call0_call0_v110, val0_6_main_call0_call0_v108] <;> rfl
set_option maxRecDepth 8192 in
set_option maxHeartbeats 2000000 in
theorem val0_7_main_call0_call0_v134 (V0 : Valuation τ sig (Elt F)) : val0_7 V0 (no_index (Proc.devRef .tc main_call0_call0_v134)) = ori (Host.shli (res_main_call0_call0_v128 V0) (broadcastInDim S1x1024x50257 ![] bcast_S_S1x1024x50257 (constantI S_ 32 24#32))) (Host.shrui (res_main_call0_call0_v128 V0) (broadcastInDim S1x1024x50257 ![] bcast_S_S1x1024x50257 (constantI S_ 32 8#32))) := by
  unfold val0_7
  simp only [ops_6, TRef.binary, TRef.nullary, TRef.unary, TRef.toBuf, TRef.ofBuf, cast_eq]
  after_results_simp
  simp only [val0_6_main_call0_call0_c_28, val0_6_main_call0_call0_v107, val0_6_main_call0_call0_v110, val0_6_main_call0_call0_v108] <;> rfl

/-- The device's buffer contents after @main's first 240 operations. -/
def val0_8 (V0 : Valuation τ sig (Elt F)) : Valuation τ sig (Elt F) := after ops_7 (val0_7 V0)
/-- The buffers that window `ops_7`'s operations write. -/
abbrev ops_7_W : List (Ref sig .tc) := [main_call0_call0_v135, main_call0_call0_v136, main_call0_call0_v137, main_call0_call0_v138, main_call0_call0_v139, main_call0_call0_c_35, main_call0_call0_v140, main_call0_call0_v141, main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158]
set_option maxRecDepth 8192 in
theorem ops_7_writes : (ops_7 : List (HloOp τ sig (Elt F))).Forall fun op => op.writes ⊆ (ops_7_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_7` does not write keeps its contents through it. -/
theorem val0_8_keep (V0 : Valuation τ sig (Elt F)) (r : Ref sig .tc) (h : r ∉ ops_7_W) :
    val0_8 V0 (Proc.devRef .tc r) = val0_7 V0 (Proc.devRef .tc r) :=
  after_of_writes_sub ops_7 _ ops_7_writes h
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
theorem val0_8_main_call0_v2 (V0 : Valuation τ sig (Elt F)) : val0_8 V0 (no_index (Proc.devRef .tc main_call0_v2)) = res_main_call0_v2 V0 :=
  (val0_8_keep V0 main_call0_v2 (by decide)).trans (val0_7_main_call0_v2 V0)
theorem val0_8_main_call0_v3 (V0 : Valuation τ sig (Elt F)) : val0_8 V0 (no_index (Proc.devRef .tc main_call0_v3)) = broadcastInDim S1x1x1 ![] bcast_S_S1x1x1 (id (constant S_ .f32 0x3F800000#32)) :=
  (val0_8_keep V0 main_call0_v3 (by decide)).trans (val0_7_main_call0_v3 V0)
theorem val0_8_main_call0_v5 (V0 : Valuation τ sig (Elt F)) : val0_8 V0 (no_index (Proc.devRef .tc main_call0_v5)) = res_main_call0_v5 V0 :=
  (val0_8_keep V0 main_call0_v5 (by decide)).trans (val0_7_main_call0_v5 V0)
theorem val0_8_main_call0_call0_v1 (V0 : Valuation τ sig (Elt F)) : val0_8 V0 (no_index (Proc.devRef .tc main_call0_call0_v1)) = res_main_call0_call0_v1 V0 :=
  (val0_8_keep V0 main_call0_call0_v1 (by decide)).trans (val0_7_main_call0_call0_v1 V0)
set_option maxRecDepth 8192 in
set_option maxHeartbeats 2000000 in
theorem val0_8_main_call0_call0_v155 (V0 : Valuation τ sig (Elt F)) : val0_8 V0 (no_index (Proc.devRef .tc main_call0_call0_v155)) = res_main_call0_call0_v155 V0 := by
  unfold val0_8
  simp only [ops_7, TRef.binary, TRef.nullary, TRef.unary, TRef.toBuf, TRef.ofBuf, cast_eq]
  after_results_simp
  simp only [val0_7_main_call0_call0_v1, val0_7_main_call0_call0_v134, val0_7_main_call0_call0_v129, val0_7_main_call0_v7] <;> rfl
set_option maxRecDepth 8192 in
set_option maxHeartbeats 2000000 in
theorem val0_8_main_call0_call0_v156 (V0 : Valuation τ sig (Elt F)) : val0_8 V0 (no_index (Proc.devRef .tc main_call0_call0_v156)) = res_main_call0_call0_v156 V0 := by
  unfold val0_8
  simp only [ops_7, TRef.binary, TRef.nullary, TRef.unary, TRef.toBuf, TRef.ofBuf, cast_eq]
  after_results_simp
  simp only [val0_7_main_call0_call0_v1, val0_7_main_call0_call0_v134, val0_7_main_call0_call0_v129, val0_7_main_call0_v7] <;> rfl
set_option maxRecDepth 8192 in
set_option maxHeartbeats 2000000 in
theorem val0_8_main_call0_call0_v158 (V0 : Valuation τ sig (Elt F)) : val0_8 V0 (no_index (Proc.devRef .tc main_call0_call0_v158)) = Host.shli (res_main_call0_call0_v155 V0) (broadcastInDim S1x1024x50257 ![] bcast_S_S1x1024x50257 (constantI S_ 32 26#32)) := by
  unfold val0_8
  simp only [ops_7, TRef.binary, TRef.nullary, TRef.unary, TRef.toBuf, TRef.ofBuf, cast_eq]
  after_results_simp
  simp only [val0_7_main_call0_call0_v1, val0_7_main_call0_call0_v134, val0_7_main_call0_call0_v129, val0_7_main_call0_v7] <;> rfl

/-- The device's buffer contents after @main's first 270 operations. -/
def val0_9 (V0 : Valuation τ sig (Elt F)) : Valuation τ sig (Elt F) := after ops_8 (val0_8 V0)
/-- The buffers that window `ops_8`'s operations write. -/
abbrev ops_8_W : List (Ref sig .tc) := [main_call0_call0_c_41, main_call0_call0_v159, main_call0_call0_v160, main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170, main_call0_v23_0, main_call0_call0_v172, main_call0_call0_v173, main_call0_call0_c_44, main_call0_call0_v174, main_call0_v23_1, main_call0_v24, main_call0_c_3, main_call0_v25, main_call0_v26, main_call0_c_4, main_call0_v27, main_call0_v28, main_call0_v29, main_call0_cst]
set_option maxRecDepth 8192 in
theorem ops_8_writes : (ops_8 : List (HloOp τ sig (Elt F))).Forall fun op => op.writes ⊆ (ops_8_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_8` does not write keeps its contents through it. -/
theorem val0_9_keep (V0 : Valuation τ sig (Elt F)) (r : Ref sig .tc) (h : r ∉ ops_8_W) :
    val0_9 V0 (Proc.devRef .tc r) = val0_8 V0 (Proc.devRef .tc r) :=
  after_of_writes_sub ops_8 _ ops_8_writes h
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
theorem val0_9_main_call0_v2 (V0 : Valuation τ sig (Elt F)) : val0_9 V0 (no_index (Proc.devRef .tc main_call0_v2)) = res_main_call0_v2 V0 :=
  (val0_9_keep V0 main_call0_v2 (by decide)).trans (val0_8_main_call0_v2 V0)
theorem val0_9_main_call0_v3 (V0 : Valuation τ sig (Elt F)) : val0_9 V0 (no_index (Proc.devRef .tc main_call0_v3)) = broadcastInDim S1x1x1 ![] bcast_S_S1x1x1 (id (constant S_ .f32 0x3F800000#32)) :=
  (val0_9_keep V0 main_call0_v3 (by decide)).trans (val0_8_main_call0_v3 V0)
set_option maxRecDepth 8192 in
set_option maxHeartbeats 2000000 in
theorem val0_9_main_call0_v29 (V0 : Valuation τ sig (Elt F)) : val0_9 V0 (no_index (Proc.devRef .tc main_call0_v29)) = bitcastToFloat (F := F) .f32 (ori (Host.shrui (xori (addi (res_main_call0_call0_v163 V0) (broadcastInDim S1x1024x50257 ![] bcast_S_S1x1024x50257 (res_main_call0_call0_v1 V0))) (addi (addi (xori (res_main_call0_call0_v163 V0) (ori (Host.shli (res_main_call0_call0_v162 V0) (broadcastInDim S1x1024x50257 ![] bcast_S_S1x1024x50257 (constantI S_ 32 6#32))) (Host.shrui (res_main_call0_call0_v162 V0) (broadcastInDim S1x1024x50257 ![] bcast_S_S1x1024x50257 (constantI S_ 32 26#32))))) (broadcastInDim S1x1024x50257 ![] bcast_S_S1x1024x50257 (res_main_call0_v5 V0))) (broadcastInDim S1x1024x50257 ![] bcast_S_S1x1024x50257 (constantI S_ 32 5#32)))) (broadcastInDim S1x1024x50257 ![] bcast_S_S1x1024x50257 (constantI S_ 32 9#32))) (broadcastInDim S1x1024x50257 ![] bcast_S_S1x1024x50257 (constantI S_ 32 1065353216#32))) := by
  unfold val0_9
  simp only [ops_8, TRef.binary, TRef.nullary, TRef.unary, TRef.toBuf, TRef.ofBuf, cast_eq]
  after_results_simp
  simp only [val0_8_main_call0_v5, val0_8_main_call0_call0_v155, val0_8_main_call0_call0_v158, val0_8_main_call0_call0_v156, val0_8_main_call0_call0_v1] <;> rfl
set_option maxRecDepth 8192 in
set_option maxHeartbeats 2000000 in
theorem val0_9_main_call0_cst (V0 : Valuation τ sig (Elt F)) : val0_9 V0 (no_index (Proc.devRef .tc main_call0_cst)) = constant S_ .f32 0x3F800000#32 := by
  unfold val0_9
  simp only [ops_8, TRef.binary, TRef.nullary, TRef.unary, TRef.toBuf, TRef.ofBuf, cast_eq]
  after_results_simp
  all_goals rfl

/-- The device's buffer contents after @main's first 300 operations. -/
def val0_10 (V0 : Valuation τ sig (Elt F)) : Valuation τ sig (Elt F) := after ops_9 (val0_9 V0)
/-- The buffers that window `ops_9`'s operations write. -/
abbrev ops_9_W : List (Ref sig .tc) := [main_call0_v30, main_call0_v31, main_call0_v32, main_call0_v33, main_call0_v34, main_call0_v35, main_call0_v36, main_call0_v37, main_v7, main_cst_3, main_v8, main_v9, main_cst_4, main_v10, main_v11, main_cst_5, main_v12, main_v13, main_v14, main_v15, main_v16, main_v17, main_v18, main_cst_6, main_v19, main_v20, main_cst_7, main_v21, main_cst_8, main_v22]
set_option maxRecDepth 8192 in
theorem ops_9_writes : (ops_9 : List (HloOp τ sig (Elt F))).Forall fun op => op.writes ⊆ (ops_9_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_9` does not write keeps its contents through it. -/
theorem val0_10_keep (V0 : Valuation τ sig (Elt F)) (r : Ref sig .tc) (h : r ∉ ops_9_W) :
    val0_10 V0 (Proc.devRef .tc r) = val0_9 V0 (Proc.devRef .tc r) :=
  after_of_writes_sub ops_9 _ ops_9_writes h
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
set_option maxRecDepth 8192 in
set_option maxHeartbeats 2000000 in
theorem val0_10_main_v20 (V0 : Valuation τ sig (Elt F)) : val0_10 V0 (no_index (Proc.devRef .tc main_v20)) = res_main_v20 V0 := by
  unfold val0_10
  simp only [ops_9, TRef.binary, TRef.unary, TRef.toBuf, TRef.ofBuf, cast_eq]
  after_results_simp
  simp only [val0_9_main_call0_v2, val0_9_main_call0_v3, val0_9_main_call0_cst, val0_9_main_call0_v29, val0_9_main_arg0] <;> rfl
set_option maxRecDepth 8192 in
set_option maxHeartbeats 2000000 in
theorem val0_10_main_v21 (V0 : Valuation τ sig (Elt F)) : val0_10 V0 (no_index (Proc.devRef .tc main_v21)) = Host.reduce FloatOps.maximumf (res_main_v20 V0) (constant S_ .f32 0xFF800000#32) reducesTo_S1x1024x50257_S1x1024_d2 h_S_ := by
  unfold val0_10
  simp only [ops_9, TRef.binary, TRef.unary, TRef.toBuf, TRef.ofBuf, cast_eq]
  after_results_simp
  simp only [val0_9_main_call0_v2, val0_9_main_call0_v3, val0_9_main_call0_cst, val0_9_main_call0_v29, val0_9_main_arg0] <;> rfl
set_option maxRecDepth 8192 in
set_option maxHeartbeats 2000000 in
theorem val0_10_main_v22 (V0 : Valuation τ sig (Elt F)) : val0_10 V0 (no_index (Proc.devRef .tc main_v22)) = broadcastInDim S1x1024 ![] bcast_S_S1x1024 (constant S_ .f32 0xFF800000#32) := by
  unfold val0_10
  simp only [ops_9, TRef.binary, TRef.unary, TRef.toBuf, TRef.ofBuf, cast_eq]
  after_results_simp
  all_goals rfl

/-- The device's buffer contents after @main's 329 operations. -/
def val1 (V0 : Valuation τ sig (Elt F)) : Valuation τ sig (Elt F) := after ops_10 (val0_10 V0)
/-- The buffers that window `ops_10`'s operations write. -/
abbrev ops_10_W : List (Ref sig .tc) := [main_v23, main_v24, main_v25, main_v26, main_v27, main_cst_9, main_v28, main_v29, main_v30, main_v31, main_call1_v0, main_call1_cst, main_call1_c, main_call1_v1_0, main_v32, main_call2_v0, main_call2_v1, main_call2_v2, main_call2_v3, main_call2_v4, main_v33, main_v34, main_v35, main_v36, main_v37, main_v38, main_v39, main_cst_10, main_v40]
set_option maxRecDepth 8192 in
theorem ops_10_writes : (ops_10 : List (HloOp τ sig (Elt F))).Forall fun op => op.writes ⊆ (ops_10_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_10` does not write keeps its contents through it. -/
theorem val1_keep (V0 : Valuation τ sig (Elt F)) (r : Ref sig .tc) (h : r ∉ ops_10_W) :
    val1 V0 (Proc.devRef .tc r) = val0_10 V0 (Proc.devRef .tc r) :=
  after_of_writes_sub ops_10 _ ops_10_writes h
theorem val1_main_arg0 (V0 : Valuation τ sig (Elt F)) : val1 V0 (no_index (Proc.devRef .tc main_arg0)) = V0 (Proc.devRef .tc main_arg0) :=
  (val1_keep V0 main_arg0 (by decide)).trans (val0_10_main_arg0 V0)
set_option maxRecDepth 8192 in
set_option maxHeartbeats 2000000 in
theorem val1_main_v35 (V0 : Valuation τ sig (Elt F)) : val1 V0 (no_index (Proc.devRef .tc main_v35)) = addf (subf (uitofp .f32 (cmpi .eq (broadcastInDim S1x1024x50257 ![0, 1, 2] bcast_S1x1024x1_S1x1024x50257_0_1_2 (broadcastInDim S1x1024x1 ![0, 1] bcast_S1x1024_S1x1024x1_0_1 ((fun j => (Host.argReduce reducer_argmax_f32_i32 (res_main_v31 V0) (res_main_call1_v0 V0) (res_main_call1_cst V0) (res_main_call1_c V0) reducesTo_S1x1024x50257_S1x1024_d2 h_S_ j).2)))) (broadcastInDim S1x1024x50257 ![0, 1, 2] bcast_S1x1x50257_S1x1024x50257_0_1_2 (iotaInDim S1x1x50257 32 2)))) (res_main_v31 V0)) (res_main_v31 V0) := by
  unfold val1
  simp only [ops_10, TRef.binary, TRef.nullary, TRef.quaternary, TRef.unary, TRef.toBuf, TRef.ofBuf, cast_eq]
  after_results_simp
  simp only [val0_10_main_v21, val0_10_main_v22, val0_10_main_v20] <;> rfl
set_option maxRecDepth 8192 in
set_option maxHeartbeats 2000000 in
theorem val1_main_v40 (V0 : Valuation τ sig (Elt F)) : val1 V0 (no_index (Proc.devRef .tc main_v40)) = Host.reduceAdd (mulf (addf (subf (uitofp .f32 (cmpi .eq (broadcastInDim S1x1024x50257 ![0, 1, 2] bcast_S1x1024x1_S1x1024x50257_0_1_2 (broadcastInDim S1x1024x1 ![0, 1] bcast_S1x1024_S1x1024x1_0_1 ((fun j => (Host.argReduce reducer_argmax_f32_i32 (res_main_v31 V0) (res_main_call1_v0 V0) (res_main_call1_cst V0) (res_main_call1_c V0) reducesTo_S1x1024x50257_S1x1024_d2 h_S_ j).2)))) (broadcastInDim S1x1024x50257 ![0, 1, 2] bcast_S1x1x50257_S1x1024x50257_0_1_2 (iotaInDim S1x1x50257 32 2)))) (res_main_v31 V0)) (res_main_v31 V0)) (broadcastInDim S1x1024x50257 ![0, 1, 2] bcast_S1x1x50257_S1x1024x50257_0_1_2 (broadcastInDim S1x1x50257 ![2] bcast_S50257_S1x1x50257_2 (sitofp .f32 (iotaInDim S50257 32 0))))) (constant S_ .f32 0x00000000#32) reducesTo_S1x1024x50257_S1x1024_d2 h_S_ := by
  unfold val1
  simp only [ops_10, TRef.binary, TRef.nullary, TRef.quaternary, TRef.unary, TRef.toBuf, TRef.ofBuf, cast_eq]
  after_results_simp
  simp only [val0_10_main_v21, val0_10_main_v22, val0_10_main_v20] <;> rfl

theorem after_ops (V0 : Valuation τ sig (Elt F)) : after ops V0 = val1 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = Host.reduceAdd (mulf (addf (subf (uitofp .f32 (cmpi .eq (broadcastInDim S1x1024x50257 ![0, 1, 2] bcast_S1x1024x1_S1x1024x50257_0_1_2 (broadcastInDim S1x1024x1 ![0, 1] bcast_S1x1024_S1x1024x1_0_1 ((fun j => (Host.argReduce reducer_argmax_f32_i32 (res_main_v31 (launchContents m c)) (res_main_call1_v0 (launchContents m c)) (res_main_call1_cst (launchContents m c)) (res_main_call1_c (launchContents m c)) reducesTo_S1x1024x50257_S1x1024_d2 h_S_ j).2)))) (broadcastInDim S1x1024x50257 ![0, 1, 2] bcast_S1x1x50257_S1x1024x50257_0_1_2 (iotaInDim S1x1x50257 32 2)))) (res_main_v31 (launchContents m c))) (res_main_v31 (launchContents m c))) (broadcastInDim S1x1024x50257 ![0, 1, 2] bcast_S1x1x50257_S1x1024x50257_0_1_2 (broadcastInDim S1x1x50257 ![2] bcast_S50257_S1x1x50257_2 (sitofp .f32 (iotaInDim S50257 32 0))))) (constant S_ .f32 0x00000000#32) reducesTo_S1x1024x50257_S1x1024_d2 h_S_
      ∧ r.2.mem ((c.tc : Thread nD τ).loc main_v35) = addf (subf (uitofp .f32 (cmpi .eq (broadcastInDim S1x1024x50257 ![0, 1, 2] bcast_S1x1024x1_S1x1024x50257_0_1_2 (broadcastInDim S1x1024x1 ![0, 1] bcast_S1x1024_S1x1024x1_0_1 ((fun j => (Host.argReduce reducer_argmax_f32_i32 (res_main_v31 (launchContents m c)) (res_main_call1_v0 (launchContents m c)) (res_main_call1_cst (launchContents m c)) (res_main_call1_c (launchContents m c)) reducesTo_S1x1024x50257_S1x1024_d2 h_S_ j).2)))) (broadcastInDim S1x1024x50257 ![0, 1, 2] bcast_S1x1x50257_S1x1024x50257_0_1_2 (iotaInDim S1x1x50257 32 2)))) (res_main_v31 (launchContents m c))) (res_main_v31 (launchContents m c))
      ∧ r.2.mem ((c.tc : Thread nD τ).loc main_arg0) = m ((c.tc : Thread nD τ).loc main_arg0) :=
  (θ_run defs _ _).mono (fun _ h c => ⟨(h c main_v40).trans ((congrFun (after_ops (launchContents m c)) (Proc.devRef .tc main_v40)).trans (val1_main_v40 (launchContents m c))),
      (h c main_v35).trans ((congrFun (after_ops (launchContents m c)) (Proc.devRef .tc main_v35)).trans (val1_main_v35 (launchContents m c))),
      (h c main_arg0).trans ((congrFun (after_ops (launchContents m c)) (Proc.devRef .tc main_arg0)).trans (val1_main_arg0 (launchContents m c)))⟩)
    (run_seq scopedRefs_eq scopedSems_eq defs main (fun _ => ops) main_eq (fun _ => ops_sub) m ρ fun _ => ops_fresh)

end Cert.ReferenceIdeal.Value

end
-- ==== Proof.Noise.lean ====
/-
  The noise both programs draw, written once: the Threefry-2x32 hash over any carrier of 32-bit words, the uniform number
  its bits make and the Gumbel number made of that.
-/
module

public import Idealize.ShloMosaic.PureOps
public import Idealize.ShloMosaic.PureOps.Ideal
public import Idealize.ShloMosaic.PureOps.Ideal.Laws

@[expose] public section

noncomputable section

namespace Cert.Noise

open Idealize.ShloMosaic

/-- What the hash does to words: add, exclusive-or, the word of a literal, and a rotation spelt by its two shifts. -/
structure WordOps (α : Type) where
  add : α → α → α
  xor : α → α → α
  lit : BitVec 32 → α
  rot : BitVec 32 → BitVec 32 → α → α

/-- One round: add, rotate, mix. -/
def rnd {α : Type} (o : WordOps α) (r s : BitVec 32) (p : α × α) : α × α :=
  (o.add p.1 p.2, o.xor (o.add p.1 p.2) (o.rot r s p.2))

/-- The even groups of four rounds. -/
def grpA {α : Type} (o : WordOps α) (p : α × α) : α × α :=
  rnd o 6#32 26#32 (rnd o 26#32 6#32 (rnd o 15#32 17#32 (rnd o 13#32 19#32 p)))

/-- The odd groups of four rounds. -/
def grpB {α : Type} (o : WordOps α) (p : α × α) : α × α :=
  rnd o 24#32 8#32 (rnd o 16#32 16#32 (rnd o 29#32 3#32 (rnd o 17#32 15#32 p)))

/-- A key injection. -/
def inj {α : Type} (o : WordOps α) (a b : α) (n : BitVec 32) (p : α × α) : α × α :=
  (o.add p.1 a, o.add (o.add p.2 b) (o.lit n))

/-- The twenty rounds over the keyed counter words `p`. -/
def hash {α : Type} (o : WordOps α) (k0 k1 k2 : α) (p : α × α) : α × α :=
  inj o k2 k0 5#32 (grpA o (inj o k1 k2 4#32 (grpB o (inj o k0 k1 3#32 (grpA o (inj o k2 k0 2#32
    (grpB o (inj o k1 k2 1#32 (grpA o p)))))))))

/-- The hash's two words mixed into one. -/
def bits {α : Type} (o : WordOps α) (k0 k1 k2 x0 x1 : α) : α :=
  o.xor (hash o k0 k1 k2 (x0, x1)).1 (hash o k0 k1 k2 (x0, x1)).2

theorem bits_congr {α : Type} (o : WordOps α) {k0 k1 k2 x0 x1 k0' k1' k2' x0' x1' : α} (h0 : k0 = k0') (h1 : k1 = k1')
    (h2 : k2 = k2') (g0 : x0 = x0') (g1 : x1 = x1') : bits o k0 k1 k2 x0 x1 = bits o k0' k1' k2' x0' x1' := by
  rw [h0, h1, h2, g0, g1]

/-- The operations on single words. -/
def lane : WordOps (BitVec 32) := ⟨fun a b => a + b, fun a b => a ^^^ b, fun n => n, fun r s a => a <<< r ||| a >>> s⟩

/-- The operations on vectors of words, as a kernel spells them. -/
def vec (s : Shape) : WordOps (IVec s 32) :=
  ⟨addi, xori, broadcast s, fun r t x => ori (shli x (broadcast s r)) (shrui x (broadcast s t))⟩

/-! ### Reading a vector's hash at an index -/

section Map
variable {α β : Type} (o : WordOps α) (o' : WordOps β) (f : α → β)

/-- `f` respects the operations, rotations by the literals the rounds use. -/
structure Respects : Prop where
  add : ∀ a b, f (o.add a b) = o'.add (f a) (f b)
  xor : ∀ a b, f (o.xor a b) = o'.xor (f a) (f b)
  lit : ∀ n, f (o.lit n) = o'.lit n
  rot : ∀ r t : BitVec 32, r.toNat < 32 → t.toNat < 32 → ∀ a, f (o.rot r t a) = o'.rot r t (f a)

variable {o o' f} (h : Respects o o' f)
include h

theorem Respects.rnd (r t : BitVec 32) (hr : r.toNat < 32) (ht : t.toNat < 32) (p : α × α) :
    Prod.map f f (Noise.rnd o r t p) = Noise.rnd o' r t (Prod.map f f p) := by
  simp only [Noise.rnd, Prod.map, h.add, h.xor, h.rot r t hr ht]

theorem Respects.inj (a b : α) (n : BitVec 32) (p : α × α) :
    Prod.map f f (Noise.inj o a b n p) = Noise.inj o' (f a) (f b) n (Prod.map f f p) := by
  simp only [Noise.inj, Prod.map, h.add, h.lit]

theorem Respects.hash (k0 k1 k2 : α) (p : α × α) :
    Prod.map f f (Noise.hash o k0 k1 k2 p) = Noise.hash o' (f k0) (f k1) (f k2) (Prod.map f f p) := by
  simp (discharger := decide) only [Noise.hash, grpA, grpB, h.inj, h.rnd]

theorem Respects.bits (k0 k1 k2 x0 x1 : α) :
    f (Noise.bits o k0 k1 k2 x0 x1) = Noise.bits o' (f k0) (f k1) (f k2) (f x0) (f x1) := by
  have := h.hash k0 k1 k2 (x0, x1)
  simp only [Noise.bits, h.xor]
  rw [show (f x0, f x1) = Prod.map f f (x0, x1) from rfl, ← this]
  rfl
end Map

theorem vec_respects (s : Shape) (j : s.Idx) : Respects (vec s) lane (fun x => x j) where
  add _ _ := rfl
  xor _ _ := rfl
  lit _ := rfl
  rot r t hr ht a := by
    show IntOp.ori (IntOp.shli .vector (a j) r) (IntOp.shrui .vector (a j) t) = _
    unfold IntOp.shli IntOp.shrui
    rw [if_pos hr, if_pos ht]
    rfl

/-- The noise word at a counter whose high word is zero, under the key (0, 42). -/
def word (n : BitVec 32) : BitVec 32 := bits lane 0#32 42#32 466689008#32 0#32 (n + 42#32)

/-! ### From a word to the Gumbel number -/

/-- The 23 top bits of a word as a fraction in `[0, 1)`. -/
def frac (b : BitVec 32) : EReal := Ideal.ofBits .f32 (b >>> 9#32 ||| 1065353216#32) - Ideal.ofBits .f32 0x3F800000#32

/-- The uniform number. -/
def unif (b : BitVec 32) : EReal := frac b + Ideal.ofBits .f32 0x3089705F#32

/-- The Gumbel number. -/
def gum (b : BitVec 32) : EReal := -Ideal.log (-Ideal.log (unif b))

/-- The noise of entry `v` of row `r`. -/
def noise (r v : ℕ) : EReal := gum (word (BitVec.ofNat 32 (r * 50257 + v)))

/-- A vector of words turned into Gumbel numbers, as the kernel spells it. -/
def gumV {F : FTy → Type} [FloatOps F] (s : Shape) (b : IVec s 32) : FVec F s .f32 :=
  subf (broadcast s (Scalar.ofBits .f32 0x00000000#32)) (log (subf (broadcast s (Scalar.ofBits .f32 0x00000000#32))
    (log (addf (subf (bitcastToFloat .f32 (ori (shrui b (broadcast s 9#32)) (broadcast s 1065353216#32)))
      (broadcast s (Scalar.ofBits .f32 0x3F800000#32))) (broadcast s (Scalar.ofBits .f32 0x3089705F#32))))))

theorem gumV_apply (s : Shape) (b : IVec s 32) (j : s.Idx) : gumV (F := Ideal) s b j = gum (b j) := by
  show Ideal.ofBits .f32 0#32 - Ideal.log (Ideal.ofBits .f32 0#32 - Ideal.log (unif (b j))) = _
  rw [Ideal.ofBits_zero_f32, zero_sub, zero_sub]
  rfl

end Cert.Noise
-- ==== Proof.Gum.lean ====
/-
  The noise is a real number: the uniform number lies strictly between 0 and 1, so both logarithms are taken of a positive real.
-/
module

public import proofs.«01_k».proof.Proof.Noise
public import Idealize.ShloMosaic.Lib.IdealHost

@[expose] public section

noncomputable section

namespace Cert.Noise

open Idealize.ShloMosaic

theorem sign_bits (b : BitVec 32) : (b >>> 9#32 ||| 1065353216#32).extractLsb' (8 + 23) 1 = 0#1 := by
  rw [BitVec.ushiftRight_eq']
  ext i hi
  have : i = 0 := by omega
  subst this
  simp [BitVec.getElem_extractLsb']

theorem exp_bits (b : BitVec 32) : (b >>> 9#32 ||| 1065353216#32).extractLsb' 23 8 = 127#8 := by
  rw [BitVec.ushiftRight_eq', BitVec.extractLsb'_or]
  have h : (b >>> (9#32).toNat).extractLsb' 23 8 = 0#8 := by
    ext i hi
    simp only [BitVec.getElem_extractLsb', BitVec.getLsbD_ushiftRight]
    rw [BitVec.getLsbD_of_ge _ _ (by show 32 ≤ 9 + (23 + i); omega)]
    simp
  rw [h]
  decide

/-- The fraction is a multiple of 2⁻²³ in `[0, 1)`. -/
theorem frac_eq (b : BitVec 32) : ∃ k : ℕ, k < 2 ^ 23 ∧ frac b = ((k / 2 ^ 23 : ℝ) : EReal) := by
  refine ⟨((b >>> 9#32 ||| 1065353216#32).extractLsb' 0 23).toNat, BitVec.isLt _, ?_⟩
  unfold frac
  rw [Ideal.ofBits_one_f32]
  simp only [Ideal.ofBits, Ideal.ieee, sign_bits, exp_bits]
  generalize ((b >>> 9#32 ||| 1065353216#32).extractLsb' 0 23).toNat = k
  rw [if_neg (by decide), if_neg (by decide), show (1 : EReal) = ((1 : ℝ) : EReal) by norm_cast, ← EReal.coe_sub]
  congr 1
  simp
  norm_num
  ring

/-- The smallest uniform number. -/
theorem lo_eq : Ideal.ofBits .f32 0x3089705F#32 = ((9007199 / 2 ^ 53 : ℝ) : EReal) := by
  simp [Ideal.ofBits, Ideal.ieee, -EReal.coe_mul]
  norm_num

theorem unif_eq (b : BitVec 32) : ∃ r : ℝ, 0 < r ∧ r < 1 ∧ unif b = (r : EReal) := by
  obtain ⟨k, hk, e⟩ := frac_eq b
  refine ⟨k / 2 ^ 23 + 9007199 / 2 ^ 53, by positivity, ?_, by rw [unif, e, lo_eq, EReal.coe_add]⟩
  have : (k : ℝ) + 1 ≤ 2 ^ 23 := by exact_mod_cast hk
  have : (k : ℝ) / 2 ^ 23 ≤ (2 ^ 23 - 1) / 2 ^ 23 := by gcongr; linarith
  refine lt_of_le_of_lt (add_le_add_left this _) ?_
  norm_num

theorem log_coe {r : ℝ} (h : 0 < r) : Ideal.log (r : EReal) = ((Real.log r : ℝ) : EReal) :=
  if_neg (not_le.2 h)

theorem gum_real (b : BitVec 32) : ∃ g : ℝ, gum b = (g : EReal) := by
  obtain ⟨r, h0, h1, e⟩ := unif_eq b
  have hneg : 0 < -Real.log r := neg_pos.2 (Real.log_neg h0 h1)
  refine ⟨-Real.log (-Real.log r), ?_⟩
  rw [gum, e, log_coe h0, ← EReal.coe_neg, log_coe hneg, ← EReal.coe_neg]

theorem noise_real (r v : ℕ) : ∃ g : ℝ, noise r v = (g : EReal) := gum_real _

/-- The reference draws from `[0, 1)`, then scales to `[lo, 1)` and keeps the result from falling below `lo`. -/
theorem draw_eq (b : BitVec 32) :
    max (Ideal.ofBits .f32 0x3089705F#32) (max 0 (frac b * (1 - 0) + 0) * 1 + Ideal.ofBits .f32 0x3089705F#32) = unif b := by
  obtain ⟨k, hk, e⟩ := frac_eq b
  have h0 : (0 : EReal) ≤ frac b := by rw [e]; exact_mod_cast (by positivity : (0 : ℝ) ≤ k / 2 ^ 23)
  simp only [sub_zero, mul_one, add_zero]
  rw [max_eq_right h0]
  refine max_eq_right ?_
  calc Ideal.ofBits .f32 0x3089705F#32 = 0 + Ideal.ofBits .f32 0x3089705F#32 := (zero_add _).symm
    _ ≤ _ := add_le_add_left h0 _

end Cert.Noise
-- ==== Proof.RefNoise.lean ====
/-
  The reference's perturbed logits, read at an index: the logit and the noise of its row and column.
-/
module

public import proofs.«01_k».proof.Proof.RefRun
public import proofs.«01_k».proof.Proof.Gum
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Noise

/-- A scalar spread over the logits' shape. -/
abbrev spread {α : Type} (x : S_.Idx → α) : S1x1024x50257.Idx → α :=
  broadcastInDim S1x1024x50257 ![] bcast_S_S1x1024x50257 x

/-- The operations on the logits' shape of words, as the reference spells them. -/
def hostOps : WordOps (IVec S1x1024x50257 32) :=
  ⟨addi, xori, fun n => spread (constantI S_ 32 n), fun r t x => ori (Host.shli x (spread (constantI S_ 32 r))) (Host.shrui x (spread (constantI S_ 32 t)))⟩

theorem host_respects (j : S1x1024x50257.Idx) : Respects hostOps lane (fun x => x j) where
  add _ _ := rfl
  xor _ _ := rfl
  lit _ := rfl
  rot r t hr ht a := by
    show IntOp.ori (IntOp.shli .host (a j) r) (IntOp.shrui .host (a j) t) = _
    unfold IntOp.shli IntOp.shrui
    rw [if_pos hr, if_pos ht]
    rfl

/-- A word's draw, as the reference spells it: from `[0, 1)`, then scaled to `[lo, 1)`. -/
def drawOf (b : BitVec 32) : EReal :=
  max (Ideal.ofBits .f32 0x3089705F#32) (max (Ideal.ofBits .f32 0#32)
    ((Ideal.ofBits .f32 (IntOp.shrui .host b 9#32 ||| 1065353216#32) - Ideal.ofBits .f32 0x3F800000#32)
      * (Ideal.ofBits .f32 0x3F800000#32 - Ideal.ofBits .f32 0#32) + Ideal.ofBits .f32 0#32)
    * Ideal.ofBits .f32 0x3F800000#32 + Ideal.ofBits .f32 0x3089705F#32)

theorem drawOf_eq (b : BitVec 32) : drawOf b = unif b := by
  rw [← draw_eq b, drawOf, Ideal.ofBits_zero_f32, Ideal.ofBits_one_f32]
  unfold IntOp.shrui
  rw [if_pos (by decide)]
  unfold frac
  rw [Ideal.ofBits_one_f32]

variable (V0 : Valuation τ sig (Elt Ideal))

/-- The argument. -/
abbrev logits : S1x1024x50257.Idx → EReal := V0 (Proc.devRef .tc main_arg0)

/-- The keyed counter words. -/
def start0 : IVec S1x1024x50257 32 :=
  addi (trunci 32 (Host.shrui (res_main_call0_v18 V0) (spread (constantI S_ 64 32#64))) natLt_32_64) (spread (res_main_call0_v5 V0))

/-- The reference's noise words. -/
def words : IVec S1x1024x50257 32 :=
  bits hostOps (spread (res_main_call0_v5 V0)) (spread (res_main_call0_v7 V0)) (spread (res_main_call0_call0_v1 V0))
    (start0 V0) (res_main_call0_call0_v5 V0)

theorem group1 : inj hostOps (spread (res_main_call0_v7 V0)) (spread (res_main_call0_call0_v1 V0)) 1#32 (grpA hostOps (start0 V0, res_main_call0_call0_v5 V0))
    = (addi (res_main_call0_call0_v27 V0) (spread (res_main_call0_v7 V0)), res_main_call0_call0_v39 V0) := by
  unfold grpA
  rw [show rnd hostOps 13#32 19#32 (start0 V0, res_main_call0_call0_v5 V0) = (res_main_call0_call0_v6 V0, res_main_call0_call0_v12 V0) from rfl,
    show rnd hostOps 15#32 17#32 (res_main_call0_call0_v6 V0, res_main_call0_call0_v12 V0) = (res_main_call0_call0_v13 V0, res_main_call0_call0_v19 V0) from rfl,
    show rnd hostOps 26#32 6#32 (res_main_call0_call0_v13 V0, res_main_call0_call0_v19 V0) = (res_main_call0_call0_v20 V0, res_main_call0_call0_v26 V0) from rfl]
  rfl

theorem group2 : inj hostOps (spread (res_main_call0_call0_v1 V0)) (spread (res_main_call0_v5 V0)) 2#32 (grpB hostOps (addi (res_main_call0_call0_v27 V0) (spread (res_main_call0_v7 V0)), res_main_call0_call0_v39 V0))
    = (addi (res_main_call0_call0_v61 V0) (spread (res_main_call0_call0_v1 V0)), res_main_call0_call0_v73 V0) := by
  unfold grpB
  rw [show rnd hostOps 17#32 15#32 (addi (res_main_call0_call0_v27 V0) (spread (res_main_call0_v7 V0)), res_main_call0_call0_v39 V0) = (res_main_call0_call0_v40 V0, res_main_call0_call0_v46 V0) from rfl,
    show rnd hostOps 29#32 3#32 (res_main_call0_call0_v40 V0, res_main_call0_call0_v46 V0) = (res_main_call0_call0_v47 V0, res_main_call0_call0_v53 V0) from rfl,
    show rnd hostOps 16#32 16#32 (res_main_call0_call0_v47 V0, res_main_call0_call0_v53 V0) = (res_main_call0_call0_v54 V0, res_main_call0_call0_v60 V0) from rfl]
  rfl

theorem group3 : inj hostOps (spread (res_main_call0_v5 V0)) (spread (res_main_call0_v7 V0)) 3#32 (grpA hostOps (addi (res_main_call0_call0_v61 V0) (spread (res_main_call0_call0_v1 V0)), res_main_call0_call0_v73 V0))
    = (addi (res_main_call0_call0_v95 V0) (spread (res_main_call0_v5 V0)), res_main_call0_call0_v107 V0) := by
  unfold grpA
  rw [show rnd hostOps 13#32 19#32 (addi (res_main_call0_call0_v61 V0) (spread (res_main_call0_call0_v1 V0)), res_main_call0_call0_v73 V0) = (res_main_call0_call0_v74 V0, res_main_call0_call0_v80 V0) from rfl,
    show rnd hostOps 15#32 17#32 (res_main_call0_call0_v74 V0, res_main_call0_call0_v80 V0) = (res_main_call0_call0_v81 V0, res_main_call0_call0_v87 V0) from rfl,
    show rnd hostOps 26#32 6#32 (res_main_call0_call0_v81 V0, res_main_call0_call0_v87 V0) = (res_main_call0_call0_v88 V0, res_main_call0_call0_v94 V0) from rfl]
  rfl

theorem group4 : inj hostOps (spread (res_main_call0_v7 V0)) (spread (res_main_call0_call0_v1 V0)) 4#32 (grpB hostOps (addi (res_main_call0_call0_v95 V0) (spread (res_main_call0_v5 V0)), res_main_call0_call0_v107 V0))
    = (addi (res_main_call0_call0_v129 V0) (spread (res_main_call0_v7 V0)), res_main_call0_call0_v141 V0) := by
  unfold grpB
  rw [show rnd hostOps 17#32 15#32 (addi (res_main_call0_call0_v95 V0) (spread (res_main_call0_v5 V0)), res_main_call0_call0_v107 V0) = (res_main_call0_call0_v108 V0, res_main_call0_call0_v114 V0) from rfl,
    show rnd hostOps 29#32 3#32 (res_main_call0_call0_v108 V0, res_main_call0_call0_v114 V0) = (res_main_call0_call0_v115 V0, res_main_call0_call0_v121 V0) from rfl,
    show rnd hostOps 16#32 16#32 (res_main_call0_call0_v115 V0, res_main_call0_call0_v121 V0) = (res_main_call0_call0_v122 V0, res_main_call0_call0_v128 V0) from rfl]
  rfl

theorem group5 : inj hostOps (spread (res_main_call0_call0_v1 V0)) (spread (res_main_call0_v5 V0)) 5#32 (grpA hostOps (addi (res_main_call0_call0_v129 V0) (spread (res_main_call0_v7 V0)), res_main_call0_call0_v141 V0))
    = (addi (res_main_call0_call0_v163 V0) (spread (res_main_call0_call0_v1 V0)), addi (addi (xori (res_main_call0_call0_v163 V0) (hostOps.rot 6#32 26#32 (res_main_call0_call0_v162 V0))) (spread (res_main_call0_v5 V0))) (spread (constantI S_ 32 5#32))) := by
  unfold grpA
  rw [show rnd hostOps 13#32 19#32 (addi (res_main_call0_call0_v129 V0) (spread (res_main_call0_v7 V0)), res_main_call0_call0_v141 V0) = (res_main_call0_call0_v142 V0, res_main_call0_call0_v148 V0) from rfl,
    show rnd hostOps 15#32 17#32 (res_main_call0_call0_v142 V0, res_main_call0_call0_v148 V0) = (res_main_call0_call0_v149 V0, res_main_call0_call0_v155 V0) from rfl,
    show rnd hostOps 26#32 6#32 (res_main_call0_call0_v149 V0, res_main_call0_call0_v155 V0) = (res_main_call0_call0_v156 V0, res_main_call0_call0_v162 V0) from rfl]
  rfl

theorem words_spelt : words V0 = xori (addi (res_main_call0_call0_v163 V0) (spread (res_main_call0_call0_v1 V0)))
    (addi (addi (xori (res_main_call0_call0_v163 V0) (hostOps.rot 6#32 26#32 (res_main_call0_call0_v162 V0))) (spread (res_main_call0_v5 V0))) (spread (constantI S_ 32 5#32))) := by
  unfold words bits Noise.hash
  rw [group1, group2, group3, group4, group5]
  rfl

theorem draw_spelt (x : S1x1024x50257.Idx → EReal) (w : IVec S1x1024x50257 32) (z : S1x1x1.Idx → EReal) (hz : z = fun _ => Ideal.ofBits .f32 0#32)
    (j : S1x1024x50257.Idx) :
    (Host.divf (F := Ideal) (addf (F := Ideal) (φ := .f32) x (Host.negf (Host.log (Host.negf (Host.log (maximumf (spread (constant S_ .f32 0x3089705F#32)) (addf (mulf (maximumf (broadcastInDim S1x1024x50257 ![0, 1, 2] bcast_S1x1x1_S1x1024x50257_0_1_2 z) (addf (mulf (subf (bitcastToFloat (F := Ideal) .f32 (ori (Host.shrui w (spread (constantI S_ 32 9#32))) (spread (constantI S_ 32 1065353216#32)))) (spread (constant S_ .f32 0x3F800000#32))) (broadcastInDim S1x1024x50257 ![0, 1, 2] bcast_S1x1x1_S1x1024x50257_0_1_2 (subf (F := Ideal) (φ := .f32) (broadcastInDim S1x1x1 ![] bcast_S_S1x1x1 (id (constant S_ .f32 0x3F800000#32))) z))) (broadcastInDim S1x1024x50257 ![0, 1, 2] bcast_S1x1x1_S1x1024x50257_0_1_2 z))) (spread (constant S_ .f32 0x3F800000#32))) (spread (constant S_ .f32 0x3089705F#32))))))))) (spread (constant S_ .f32 0x3F800000#32)) : FVec Ideal S1x1024x50257 .f32) j
      = Ideal.div (x j + -Ideal.log (-Ideal.log (drawOf (w j)))) (Ideal.ofBits .f32 0x3F800000#32) := by
  subst hz
  rfl

theorem v20_spelt (j : S1x1024x50257.Idx) : res_main_v20 V0 j
    = Ideal.div (logits V0 j + -Ideal.log (-Ideal.log (drawOf (words V0 j)))) (Ideal.ofBits .f32 0x3F800000#32) := by
  rw [words_spelt]
  unfold res_main_v20
  exact draw_spelt (logits V0) _ (res_main_call0_v2 V0) rfl j

theorem one_place {s t : Shape} (hs : s.numel = 1) (ht : t.numel = 1) (k : s.Idx) (i : t.Idx) :
    (s.rowMajor k).val = (t.rowMajor i).val := by
  have h1 := (s.rowMajor k).isLt
  have h2 := (t.rowMajor i).isLt
  omega

theorem key0 (i : S_.Idx) : res_main_call0_v5 V0 i = 0#32 := by
  refine (shapeCast_apply _ _ _ (ix1 (0 : Fin 1)) (one_place (by decide) (by decide) _ _)).trans
    ((extractStridedSlice_apply _ _ _ _ (ix1 (0 : Fin 2)) (fun a => by
      match a with
      | ⟨0, _⟩ => rfl)).trans ?_)
  show res_main_v6 V0 (ix1 (0 : Fin 2)) = _
  unfold res_main_v6
  refine (concatenate_pair_apply_left (t := S2) (s₁ := S1) (s₂ := S1) 0 _ _ concatenates_S1_S1_S2_d0 _ rfl (ix1 (0 : Fin 1)) (fun b => by
    match b with
    | ⟨0, _⟩ => rfl)).trans ?_
  show IntOp.shrui .host 42#32 32#32 = 0#32
  rfl

theorem key1 (i : S_.Idx) : res_main_call0_v7 V0 i = 42#32 := by
  refine (shapeCast_apply _ _ _ (ix1 (0 : Fin 1)) (one_place (by decide) (by decide) _ _)).trans
    ((extractStridedSlice_apply _ _ _ _ (ix1 (1 : Fin 2)) (fun a => by
      match a with
      | ⟨0, _⟩ => rfl)).trans ?_)
  show res_main_v6 V0 (ix1 (1 : Fin 2)) = _
  unfold res_main_v6
  refine (concatenate_pair_apply_right (t := S2) (s₁ := S1) (s₂ := S1) 0 _ _ concatenates_S1_S1_S2_d0 _ rfl rfl (ix1 (0 : Fin 1)) (fun b hb => by
    match b with
    | ⟨0, _⟩ => exact absurd rfl hb) rfl).trans ?_
  show IntOp.andi 42#32 4294967295#32 = 42#32
  rfl

theorem key2 (i : S_.Idx) : res_main_call0_call0_v1 V0 i = 466689008#32 := by
  show IntOp.xori (IntOp.xori (res_main_call0_v5 V0 i) (res_main_call0_v7 V0 i)) 466688986#32 = _
  rw [key0, key1]
  rfl

theorem counter_toNat (j : S1x1024x50257.Idx) :
    (res_main_call0_v18 V0 j : BitVec 64).toNat = (j 1).val * 50257 + (j 2).val := by
  show (51463168#64 * BitVec.ofNat 64 (j 0).val + 50257#64 * BitVec.ofNat 64 (j 1).val + 1#64 * BitVec.ofNat 64 (j 2).val).toNat = _
  have h0 : (j 0).val < 1 := (j 0).isLt
  have h1 : (j 1).val < 1024 := (j 1).isLt
  have h2 : (j 2).val < 50257 := (j 2).isLt
  generalize (j 0).val = a at *
  generalize (j 1).val = b at *
  generalize (j 2).val = d at *
  simp only [BitVec.toNat_add, BitVec.toNat_mul, BitVec.toNat_ofNat]
  omega

theorem high_word (n : BitVec 64) (h : n.toNat < 2 ^ 32) : (IntOp.shrui .host n 32#64).setWidth 32 = 0#32 := by
  unfold IntOp.shrui
  rw [if_pos (by decide)]
  have h' : n >>> 32#64 = 0#64 := by
    apply BitVec.eq_of_toNat_eq
    rw [BitVec.ushiftRight_eq', BitVec.toNat_ushiftRight, Nat.shiftRight_eq_div_pow]
    exact Nat.div_eq_of_lt (by rw [show (32#64).toNat = 32 by rfl]; omega)
  rw [h']
  rfl

theorem words_apply (j : S1x1024x50257.Idx) : words V0 j = word (BitVec.ofNat 32 ((j 1).val * 50257 + (j 2).val)) := by
  have h1 : (j 1).val < 1024 := (j 1).isLt
  have h2 : (j 2).val < 50257 := (j 2).isLt
  have hc := counter_toNat V0 j
  refine ((host_respects j).bits _ _ _ _ _).trans (bits_congr lane (key0 V0 _) (key1 V0 _) (key2 V0 _) ?_ ?_)
  · show (IntOp.shrui .host (res_main_call0_v18 V0 j : BitVec 64) 32#64).setWidth 32 + res_main_call0_v5 V0 _ = 0#32
    rw [key0]
    rw [high_word _ (by omega)]
    rfl
  · show (res_main_call0_v18 V0 j : BitVec 64).setWidth 32 + res_main_call0_v7 V0 _ = _ + 42#32
    rw [key1]
    congr 1
    apply BitVec.eq_of_toNat_eq
    rw [BitVec.toNat_setWidth, hc, BitVec.toNat_ofNat]

theorem v20_apply (j : S1x1024x50257.Idx) :
    res_main_v20 V0 j = logits V0 j + noise (j 1).val (j 2).val := by
  rw [v20_spelt, drawOf_eq, words_apply, Ideal.ofBits_one_f32, Ideal.div, if_neg one_ne_zero, inv_one, mul_one]
  rfl

end Cert.ReferenceIdeal.Value
-- ==== Proof.First.lean ====
/-
  The first place where a row is largest: that there is exactly one, that a fold which keeps the better of two finds it, and
  that a search over 512 lanes, each keeping its own first largest place, finds it too.
-/
module

public import Idealize.ShloMosaic.PureOps
public import Idealize.ShloMosaic.PureOps.Ideal
public import Idealize.ShloMosaic.PureOps.Ideal.Laws
public import Idealize.ShloMosaic.PureOps.Reduce

@[expose] public section

noncomputable section

namespace Cert.First

open Idealize.ShloMosaic

/-- `v` is the first of the places below `n` at which `y` is largest. -/
structure IsFirst (n : ℕ) (y : ℕ → EReal) (v : ℕ) : Prop where
  lt : v < n
  le : ∀ u, u < n → y u ≤ y v
  first : ∀ u, u < v → y u < y v

theorem exists_first {n : ℕ} (hn : 0 < n) (y : ℕ → EReal) : ∃ v, IsFirst n y v := by
  classical
  have hex : ∃ v, v < n ∧ ∀ u, u < n → y u ≤ y v := by
    haveI : Nonempty (Fin n) := ⟨⟨0, hn⟩⟩
    obtain ⟨v, hv⟩ := Finite.exists_max fun i : Fin n => y i
    exact ⟨v, v.isLt, fun u hu => hv ⟨u, hu⟩⟩
  refine ⟨Nat.find hex, (Nat.find_spec hex).1, (Nat.find_spec hex).2, fun u hu => ?_⟩
  by_contra hle
  refine Nat.find_min hex hu ⟨hu.trans (Nat.find_spec hex).1, fun w hw => ?_⟩
  exact ((Nat.find_spec hex).2 w hw).trans (not_lt.1 hle)

theorem IsFirst.unique {n : ℕ} {y : ℕ → EReal} {v w : ℕ} (hv : IsFirst n y v) (hw : IsFirst n y w) : v = w := by
  rcases lt_trichotomy v w with h | h | h
  · exact absurd (hw.first v h) (not_lt.2 (hv.le w hw.lt))
  · exact h
  · exact absurd (hv.first w h) (not_lt.2 (hw.le v hv.lt))

/-- Two rows in the same order have the same first largest place. -/
theorem IsFirst.congr {n : ℕ} {y z : ℕ → EReal} {v : ℕ} (h : IsFirst n y v)
    (hyz : ∀ u w, u < n → w < n → (y u ≤ y w ↔ z u ≤ z w)) : IsFirst n z v where
  lt := h.lt
  le u hu := (hyz u v hu h.lt).1 (h.le u hu)
  first u hu := not_le.1 fun hle => absurd ((hyz v u h.lt (hu.trans h.lt)).2 hle) (not_le.2 (h.first u hu))

/-! ### Folds that keep one of two -/

section Folds
variable {α : Type} (R : α → α → Prop) (f : α → α → α)

/-- A left fold of an operation that keeps the better of its operands is one of the list's members or the start, and is
    at least as good as all of them. -/
theorem foldl_keeps (htr : ∀ a b c, R a b → R b c → R a c) (hrf : ∀ a, R a a)
    (hf : ∀ a b, (f a b = a ∨ f a b = b) ∧ R (f a b) a ∧ R (f a b) b) (l : List α) (b : α) :
    (l.foldl f b = b ∨ l.foldl f b ∈ l) ∧ R (l.foldl f b) b ∧ ∀ a ∈ l, R (l.foldl f b) a := by
  induction l generalizing b with
  | nil => exact ⟨.inl rfl, hrf b, fun _ h => absurd h List.not_mem_nil⟩
  | cons a l ih =>
    obtain ⟨h1, h2, h3⟩ := ih (f b a)
    obtain ⟨g1, g2, g3⟩ := hf b a
    rw [List.foldl_cons]
    refine ⟨?_, htr _ _ _ h2 g2, fun c hc => ?_⟩
    · rcases h1 with h1 | h1
      · rw [h1]
        rcases g1 with g1 | g1
        · exact .inl g1
        · exact .inr (by rw [g1]; exact List.mem_cons_self)
      · exact .inr (List.mem_cons_of_mem _ h1)
    · rcases List.mem_cons.1 hc with rfl | hc
      · exact htr _ _ _ h2 g3
      · exact h3 c hc

/-- The same for an unordered fold. -/
theorem fold_keeps {ι : Type} [Std.Commutative f] [Std.Associative f] (htr : ∀ a b c, R a b → R b c → R a c)
    (hrf : ∀ a, R a a) (hf : ∀ a b, (f a b = a ∨ f a b = b) ∧ R (f a b) a ∧ R (f a b) b) (s : Finset ι) (g : ι → α) (b : α) :
    (s.fold f b g = b ∨ ∃ i ∈ s, s.fold f b g = g i) ∧ ∀ i ∈ s, R (s.fold f b g) (g i) := by
  classical
  induction s using Finset.induction_on with
  | empty => exact ⟨.inl rfl, fun _ h => absurd h (Finset.notMem_empty _)⟩
  | insert a s ha ih =>
    obtain ⟨h1, h3⟩ := ih
    obtain ⟨g1, g2, g3⟩ := hf (g a) (s.fold f b g)
    rw [Finset.fold_insert ha]
    refine ⟨?_, fun i hi => ?_⟩
    · rcases g1 with g1 | g1
      · exact .inr ⟨a, Finset.mem_insert_self _ _, g1⟩
      · rw [g1]
        exact h1.imp id fun ⟨i, hi, h⟩ => ⟨i, Finset.mem_insert_of_mem hi, h⟩
    · rcases Finset.mem_insert.1 hi with rfl | hi
      · exact g2
      · exact htr _ _ _ g3 (h3 i hi)
end Folds

/-- The signed minimum keeps the smaller of two words. -/
theorem fold_minsi {ι : Type} (s : Finset ι) (g : ι → BitVec 32) (b : BitVec 32) :
    (s.fold IntOp.minsi b g = b ∨ ∃ i ∈ s, s.fold IntOp.minsi b g = g i)
      ∧ ∀ i ∈ s, (s.fold IntOp.minsi b g).toInt ≤ (g i).toInt := by
  refine fold_keeps (fun x y : BitVec 32 => x.toInt ≤ y.toInt) IntOp.minsi (fun _ _ _ => le_trans) (fun _ => le_rfl)
    (fun x y => ?_) s g b
  unfold IntOp.minsi
  by_cases h : x.slt y = true
  · rw [if_pos h]
    have := BitVec.slt_iff_toInt_lt.1 h
    exact ⟨.inl rfl, le_rfl, this.le⟩
  · rw [if_neg h]
    have : ¬ x.toInt < y.toInt := fun h' => h (BitVec.slt_iff_toInt_lt.2 h')
    exact ⟨.inr rfl, not_lt.1 this, le_rfl⟩

theorem toInt_ofNat {n : ℕ} (h : n < 2 ^ 31) : (BitVec.ofNat 32 n).toInt = n := by
  have h' : (BitVec.ofNat 32 n).toNat = n := by rw [BitVec.toNat_ofNat]; exact Nat.mod_eq_of_lt (by omega)
  rw [BitVec.toInt_eq_toNat_of_lt (by omega), h']

/-! ### The lanes' search -/

/-- A lane that walks the places `at_ 0, at_ 1, …` keeps the largest value met and the first place that had it, as long as
    any value met is above the start. -/
theorem lane (y : ℕ → EReal) (at_ : ℕ → ℕ) (m : ℕ → EReal) (p : ℕ → BitVec 32) (h0 : m 0 = ⊥)
    (hm : ∀ n, m (n + 1) = if m n < y (at_ n) then y (at_ n) else m n)
    (hp : ∀ n, p (n + 1) = if m n < y (at_ n) then BitVec.ofNat 32 (at_ n) else p n) (n : ℕ) :
    (∀ c, c < n → y (at_ c) ≤ m n)
      ∧ (m n = ⊥ ∨ ∃ c, c < n ∧ m n = y (at_ c) ∧ p n = BitVec.ofNat 32 (at_ c) ∧ ∀ c', c' < c → y (at_ c') < m n) := by
  induction n with
  | zero => exact ⟨fun c hc => absurd hc (Nat.not_lt_zero c), .inl h0⟩
  | succ n ih =>
    obtain ⟨i1, i2⟩ := ih
    rw [hm, hp]
    by_cases h : m n < y (at_ n)
    · rw [if_pos h, if_pos h]
      refine ⟨fun c hc => ?_, .inr ⟨n, Nat.lt_succ_self n, rfl, rfl, fun c hc => (i1 c hc).trans_lt h⟩⟩
      rcases Nat.lt_succ_iff_lt_or_eq.1 hc with hc | rfl
      · exact (i1 c hc).trans h.le
      · exact le_rfl
    · rw [if_neg h, if_neg h]
      refine ⟨fun c hc => ?_, i2.imp id fun ⟨c, hc, h⟩ => ⟨c, hc.trans (Nat.lt_succ_self n), h⟩⟩
      rcases Nat.lt_succ_iff_lt_or_eq.1 hc with hc | rfl
      · exact i1 c hc
      · exact not_lt.1 h

/-- The smallest place kept by the lanes whose maximum is the row's is the row's first largest place: the lanes `l` walk
    `col c + l`, the columns never going back, and between them meet every place. -/
theorem lanes {ι : Type} [Fintype ι] (N K : ℕ) (y : ℕ → EReal) (col : ℕ → ℕ) (off : ι → ℕ) (hcol : Monotone col)
    (hlt : ∀ c l, c < K → col c + off l < N) (hcov : ∀ u, u < N → ∃ c l, c < K ∧ u = col c + off l) (hN : N ≤ 2 ^ 30)
    (m : ι → EReal) (p : ι → BitVec 32)
    (h : ∀ l, (∀ c, c < K → y (col c + off l) ≤ m l) ∧ (m l = ⊥ ∨ ∃ c, c < K ∧ m l = y (col c + off l)
      ∧ p l = BitVec.ofNat 32 (col c + off l) ∧ ∀ c', c' < c → y (col c' + off l) < m l))
    (M : EReal) (hM : ∀ l, m l ≤ M) (hM' : M = ⊥ ∨ ∃ l, M = m l) (v : ℕ) (hv : IsFirst N y v) (hb : ⊥ < y v)
    (b : BitVec 32) (hb' : b.toInt = 2 ^ 31 - 1) :
    Finset.univ.fold IntOp.minsi b (fun l => if m l = M then p l else 1073741824#32) = BitVec.ofNat 32 v := by
  obtain ⟨c₀, l₀, hc₀, e₀⟩ := hcov v hv.lt
  have hMv : M = y v := by
    refine le_antisymm ?_ ?_
    · rcases hM' with h' | ⟨l, h'⟩
      · rw [h']; exact bot_le
      · rcases (h l).2 with h2 | ⟨c, hc, h2, -⟩
        · rw [h', h2]; exact bot_le
        · rw [h', h2]; exact hv.le _ (hlt c l hc)
    · refine le_trans ?_ (hM l₀)
      rw [e₀]; exact (h l₀).1 c₀ hc₀
  have key : ∀ l, m l = M → ∃ c, c < K ∧ p l = BitVec.ofNat 32 (col c + off l) ∧ y (col c + off l) = y v
      ∧ ∀ c', c' < c → y (col c' + off l) < y v := by
    intro l hl
    rcases (h l).2 with h2 | ⟨c, hc, h2, h3, h4⟩
    · rw [hl, hMv] at h2; rw [h2] at hb; exact absurd hb (lt_irrefl _)
    · exact ⟨c, hc, h3, by rw [← h2, hl, hMv], fun c' hc' => by rw [← hMv, ← hl]; exact h4 c' hc'⟩
  have hp₀ : m l₀ = M ∧ p l₀ = BitVec.ofNat 32 v := by
    have hm : m l₀ = M := le_antisymm (hM l₀) (by rw [hMv, e₀]; exact (h l₀).1 c₀ hc₀)
    obtain ⟨c, hc, h3, h4, h5⟩ := key l₀ hm
    refine ⟨hm, ?_⟩
    rw [h3]
    have hle : c ≤ c₀ := by
      by_contra hgt
      exact absurd (h5 c₀ (not_le.1 hgt)) (by rw [← e₀]; exact lt_irrefl _)
    have h6 : col c + off l₀ ≤ v := by rw [e₀]; exact Nat.add_le_add_right (hcol hle) _
    rcases h6.lt_or_eq with h7 | h7
    · exact absurd (hv.first _ h7) (by rw [h4]; exact lt_irrefl _)
    · rw [h7]
  have hvN : v < 2 ^ 30 := lt_of_lt_of_le hv.lt hN
  obtain ⟨f1, f2⟩ := fold_minsi Finset.univ (fun l => if m l = M then p l else 1073741824#32) b
  have f3 := f2 l₀ (Finset.mem_univ _)
  rw [if_pos hp₀.1, hp₀.2, toInt_ofNat (by omega)] at f3
  rcases f1 with f1 | ⟨l, -, f1⟩
  · rw [f1, hb'] at f3; omega
  · by_cases hl : m l = M
    · obtain ⟨c, hc, h3, h4, -⟩ := key l hl
      rw [if_pos hl, h3] at f1
      have hlt' := hlt c l hc
      rw [f1, toInt_ofNat (by omega)] at f3
      have hge : v ≤ col c + off l := by
        by_contra hgt
        exact absurd (hv.first _ (not_le.1 hgt)) (by rw [h4]; exact lt_irrefl _)
      rw [f1]
      congr 1
      omega
    · rw [if_neg hl] at f1
      rw [f1, show (1073741824#32).toInt = 2 ^ 30 from by decide] at f3
      omega

end Cert.First
-- ==== Proof.Soft.lean ====
/-
  A softmax row over the extended reals: it keeps the row's order, so the row's first largest place is also the softmax's, and
  every entry is a real number that is not negative. And the reducer of an argmax: it keeps the larger value, then the smaller index.
-/
module

public import proofs.«01_k».proof.Proof.First
public import proofs.«01_k».proof.Proof.Gen.ReferenceIdeal
public import Idealize.ShloMosaic.Lib.IdealHost

@[expose] public section

noncomputable section

namespace Cert.Soft

open Idealize.ShloMosaic Cert.First

/-- The exponential of `y - M` as a real number, for `y` not above the real `M`. -/
def ex (M : ℝ) (y : EReal) : ℝ := if y = ⊥ then 0 else Real.exp (y.toReal - M)

theorem ex_nonneg (M : ℝ) (y : EReal) : 0 ≤ ex M y := by
  unfold ex
  split
  · exact le_rfl
  · exact (Real.exp_pos _).le

theorem ex_pos {M : ℝ} {y : EReal} (h : y ≠ ⊥) : 0 < ex M y := by
  unfold ex
  rw [if_neg h]
  exact Real.exp_pos _

theorem exp_eq {M : ℝ} {y : EReal} (h : y ≤ M) : Ideal.exp (y - (M : EReal)) = ((ex M y : ℝ) : EReal) := by
  induction y with
  | bot =>
    rw [EReal.bot_sub, ex, if_pos rfl]
    exact EReal.coe_zero.symm
  | top => exact absurd h (not_le.2 (EReal.coe_lt_top M))
  | coe y =>
    rw [← EReal.coe_sub, ex, if_neg (EReal.coe_ne_bot y), EReal.toReal_coe]
    rfl

theorem ex_le_iff {M : ℝ} {y w : EReal} (hy : y ≤ M) (hw : w ≤ M) : y ≤ w ↔ ex M y ≤ ex M w := by
  induction y with
  | bot => simp [ex_nonneg, show ex M ⊥ = 0 from if_pos rfl]
  | top => exact absurd hy (not_le.2 (EReal.coe_lt_top M))
  | coe y =>
    induction w with
    | bot =>
      rw [show ex M ⊥ = 0 from if_pos rfl]
      exact ⟨fun h => absurd h (not_le.2 (EReal.bot_lt_coe y)), fun h => absurd h (not_le.2 (ex_pos (EReal.coe_ne_bot y)))⟩
    | top => exact absurd hw (not_le.2 (EReal.coe_lt_top M))
    | coe w =>
      unfold ex
      rw [if_neg (EReal.coe_ne_bot y), if_neg (EReal.coe_ne_bot w), EReal.toReal_coe, EReal.toReal_coe, EReal.coe_le_coe_iff,
        Real.exp_le_exp]
      constructor <;> intro h <;> linarith

/-- An entry of the softmax of a row `y` of `n` entries whose largest is the real `M`. -/
def soft (n : ℕ) (M : ℝ) (y : ℕ → EReal) (u : ℕ) : ℝ := ex M (y u) / ∑ k : Fin n, ex M (y k)

section
variable {n : ℕ} {M : ℝ} {y : ℕ → EReal} {v : ℕ} (hv : IsFirst n y v) (hM : y v = M)
include hv hM

theorem le_max (u : ℕ) (hu : u < n) : y u ≤ M := hM ▸ hv.le u hu

theorem sum_pos : 0 < ∑ k : Fin n, ex M (y k) :=
  lt_of_lt_of_le (ex_pos (M := M) (y := y v) (by rw [hM]; exact EReal.coe_ne_bot M))
    (Finset.single_le_sum (f := fun k : Fin n => ex M (y k)) (fun k _ => ex_nonneg M _) (Finset.mem_univ (⟨v, hv.lt⟩ : Fin n)))

theorem sum_eq : (∑ k : Fin n, Ideal.exp (y k - (M : EReal))) = ((∑ k : Fin n, ex M (y k) : ℝ) : EReal) := by
  rw [Finset.sum_congr rfl fun (k : Fin n) _ => exp_eq (le_max hv hM k k.isLt)]
  exact (map_sum (⟨⟨((↑) : ℝ → EReal), EReal.coe_zero⟩, EReal.coe_add⟩ : ℝ →+ EReal) _ _).symm

theorem div_eq (u : ℕ) (hu : u < n) :
    Ideal.div (Ideal.exp (y u - (M : EReal))) (∑ k : Fin n, Ideal.exp (y k - (M : EReal))) = ((soft n M y u : ℝ) : EReal) := by
  have hp := sum_pos hv hM
  rw [sum_eq hv hM, exp_eq (le_max hv hM u hu), Ideal.div, if_neg (by exact_mod_cast hp.ne'), soft, div_eq_mul_inv, EReal.coe_mul,
    EReal.coe_inv]

theorem soft_nonneg (u : ℕ) : 0 ≤ soft n M y u := div_nonneg (ex_nonneg _ _) (sum_pos hv hM).le

theorem soft_first : IsFirst n (fun u => ((soft n M y u : ℝ) : EReal)) v :=
  hv.congr fun u w hu hw => by
    rw [ex_le_iff (le_max hv hM u hu) (le_max hv hM w hw), EReal.coe_le_coe_iff, soft, soft,
      div_le_div_iff_of_pos_right (sum_pos hv hM)]
end

/-! ### The argmax -/

/-- Better: a larger value, or the same at a smaller index. -/
def Better (p q : EReal × BitVec 32) : Prop := q.1 < p.1 ∨ (p.1 = q.1 ∧ p.2.toInt ≤ q.2.toInt)

theorem Better.trans (a b c : EReal × BitVec 32) (h : Better a b) (h' : Better b c) : Better a c := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

theorem Better.refl (a : EReal × BitVec 32) : Better a a := .inr ⟨rfl, le_rfl⟩

theorem reducer_eq (a b : EReal × BitVec 32) : Cert.ReferenceIdeal.reducer_argmax_f32_i32 (F := Ideal) a b
    = (if b.1 < a.1 then a.1 else b.1, if b.1 < a.1 ∨ (a.1 = b.1 ∧ a.2.slt b.2 = true) then a.2 else b.2) := by
  show (Scalar.select (BitVec.ofBool (decide (b.1 < a.1)) ||| BitVec.ofBool (decide (a.1 ≠ a.1))) a.1 b.1,
    Scalar.select ((BitVec.ofBool (decide (b.1 < a.1)) ||| BitVec.ofBool (decide (a.1 ≠ a.1)))
      ||| (BitVec.ofBool (decide (a.1 = b.1)) &&& BitVec.ofBool (a.2.slt b.2))) a.2 b.2) = _
  by_cases h : b.1 < a.1 <;> by_cases e : a.1 = b.1 <;> by_cases s : a.2.slt b.2 = true <;>
    simp [h, e, s, Scalar.select]

theorem reducer_keeps (a b : EReal × BitVec 32) :
    (Cert.ReferenceIdeal.reducer_argmax_f32_i32 (F := Ideal) a b = a ∨ Cert.ReferenceIdeal.reducer_argmax_f32_i32 (F := Ideal) a b = b)
      ∧ Better (Cert.ReferenceIdeal.reducer_argmax_f32_i32 (F := Ideal) a b) a
      ∧ Better (Cert.ReferenceIdeal.reducer_argmax_f32_i32 (F := Ideal) a b) b := by
  rw [reducer_eq]
  rcases lt_trichotomy b.1 a.1 with h | h | h
  · rw [if_pos h, if_pos (.inl h)]
    exact ⟨.inl rfl, Better.refl a, .inl h⟩
  · by_cases s : a.2.slt b.2 = true
    · rw [if_neg (by rw [h]; exact lt_irrefl _), if_pos (.inr ⟨h.symm, s⟩)]
      exact ⟨.inl (Prod.ext h rfl), .inr ⟨h, le_rfl⟩, .inr ⟨rfl, (BitVec.slt_iff_toInt_lt.1 s).le⟩⟩
    · rw [if_neg (by rw [h]; exact lt_irrefl _), if_neg (by rw [h]; rintro (h' | h'); exacts [lt_irrefl _ h', s h'.2])]
      exact ⟨.inr rfl, .inr ⟨h, not_lt.1 fun h' => s (BitVec.slt_iff_toInt_lt.2 h')⟩, Better.refl b⟩
  · rw [if_neg h.not_gt, if_neg (by rintro (h' | h'); exacts [h.not_gt h', h.ne h'.1])]
    exact ⟨.inr rfl, .inl h, Better.refl b⟩

/-- The fold of the reducer over a row's values beside their places, started below all of them, ends at the first largest. -/
theorem foldl_first {n : ℕ} (hn : n < 2 ^ 31) {z : ℕ → EReal} {v : ℕ} (hz : IsFirst n z v) (h0 : ⊥ < z v) (l : List (EReal × BitVec 32))
    (hl : ∀ p, p ∈ l ↔ ∃ k, k < n ∧ p = (z k, BitVec.ofNat 32 k)) (i : BitVec 32) :
    (l.foldl (Cert.ReferenceIdeal.reducer_argmax_f32_i32 (F := Ideal)) (⊥, i)).2 = BitVec.ofNat 32 v := by
  obtain ⟨h1, -, h3⟩ := foldl_keeps Better (Cert.ReferenceIdeal.reducer_argmax_f32_i32 (F := Ideal)) Better.trans Better.refl reducer_keeps l (⊥, i)
  have hb := h3 _ ((hl _).2 ⟨v, hz.lt, rfl⟩)
  rcases h1 with h1 | h1
  · rw [h1] at hb
    rcases hb with hb | hb
    · exact absurd hb not_lt_bot
    · exact absurd hb.1 h0.ne
  · obtain ⟨k, hk, e⟩ := (hl _).1 h1
    rw [e] at hb ⊢
    rcases hb with hb | ⟨hb, hi⟩
    · exact absurd hb (not_lt.2 (hz.le k hk))
    · have hv := hz.lt
      simp only [toInt_ofNat (show k < 2 ^ 31 by omega), toInt_ofNat (show v < 2 ^ 31 by omega)] at hi
      rcases lt_or_eq_of_le (show k ≤ v by exact_mod_cast hi) with h | h
      · exact absurd hb (hz.first k h).ne
      · rw [h]

end Cert.Soft
-- ==== Proof.Chunks.lean ====
/-
  The row argmax's body, which walks its block's columns in ninety-nine spans of 512: the running maximum and the running
  column of each of the 512 lanes as one recursion over the spans.
-/
module

public import proofs.«01_k».proof.Proof.Gen.KernelIdeal.Frame
public import proofs.«01_k».proof.Proof.Noise

@[expose] public section

set_option maxRecDepth 100000

noncomputable section

namespace Cert.Chunks

open Idealize.ShloMosaic Cert.KernelIdeal Cert.KernelIdeal.Gen Cert.Noise

variable {F : FTy → Type} [FloatOps F]

/-- The first column of span `c`: the last span is moved back so that it ends with the row. -/
def col (c : ℕ) : ℕ := min (512 * c) 49745

theorem inb (c : ℕ) : ∀ a, (![0, col c] : Fin 2 → Nat) a + S8x512.size a ≤ S8x50257.size a := by
  have : col c ≤ 49745 := Nat.min_le_right _ _
  intro a
  match a with
  | 0 => exact (by decide : 0 + 8 ≤ 8)
  | 1 =>
    show col c + 512 ≤ 50257
    omega

/-- The perturbed logits of span `c`. -/
def pert (f : IVec S8x512 32) (x : Vec F S8x50257 .f32) (c : ℕ) : FVec F S8x512 .f32 :=
  addf (shapeCast S8x512 (View.ld x (Rect.unit (s := S8x50257) ![0, col c] S8x512.size (inb c))) shapeCasts_S8x512_S8x512)
    (gumV S8x512 (bits (vec S8x512) (broadcast S8x512 0#32) (broadcast S8x512 42#32) (broadcast S8x512 466689008#32)
      (addi (broadcast S8x512 0#32) (broadcast S8x512 0#32))
      (addi (addi f (broadcast S8x512 (BitVec.ofNat 32 (col c)))) (broadcast S8x512 42#32))))

/-- One span: a lane whose perturbed logit is larger than its maximum takes it over, with its column. -/
def step (l : IVec S8x512 32) (y : FVec F S8x512 .f32) (c : ℕ) (p : FVec F S8x512 .f32 × IVec S8x512 32) :
    FVec F S8x512 .f32 × IVec S8x512 32 :=
  (select (cmpf .ogt y p.1) y p.1,
    select (cmpf .ogt y p.1) (addi l (broadcast S8x512 (BitVec.ofNat 32 (col c)))) p.2)

/-- The lanes' maxima and columns after the first `n` spans. -/
def after (l f : IVec S8x512 32) (x : Vec F S8x50257 .f32) : ℕ → FVec F S8x512 .f32 × IVec S8x512 32
  | 0 => (broadcast S8x512 (Scalar.ofBits .f32 0xFF800000#32), broadcast S8x512 0#32)
  | n + 1 => step l (pert f x n) n (after l f x n)

/-- The lane numbers. -/
abbrev lanes : IVec S8x512 32 := iota .tc S8x512 32 [1] iota_S8x512_d1_w32

set_option Elab.async false in
theorem max_eq (i : grid0.Coords) (x : Vec F S8x50257 .f32) : k0_pay5734 i x = (after lanes (k0_pay1 i) x 98).1 := by
  chain_rfl
set_option Elab.async false in
theorem idx_eq (i : grid0.Coords) (x : Vec F S8x50257 .f32) : k0_pay5735 i x = (after lanes (k0_pay1 i) x 98).2 := by
  chain_rfl

/-- The row's column from its lanes' maxima and columns: the smallest column among the lanes that reach the row's maximum. -/
def rowIdx (p : FVec F S8x512 .f32 × IVec S8x512 32) : IVec S8x1 32 :=
  shapeCast S8x1 (multiReductionI .minsi [1] S8 (select (cmpf .oeq p.1 (broadcastTo S8x512
      (shapeCast S8x1 (multiReduction .maximumf [1] S8 p.1 0xFF800000#32 reduces_S8x512_S8 (.inl rfl) rfl) shapeCasts_S8_S8x1)
      broadcasts_S8x1_S8x512)) p.2 (broadcast S8x512 1073741824#32)) 2147483647#32 reduces_S8x512_S8 rfl) shapeCasts_S8_S8x1

set_option Elab.async false in
theorem last_eq (i : grid0.Coords) (x : Vec F S8x50257 .f32) (a : FVec F S8x512 .f32) (b : IVec S8x512 32) :
    k0_pay4593 (k0_pay4596 i x) a b (k0_pay5736 i x) (k0_pay5745 i x) = rowIdx (step lanes (pert (k0_pay1 i) x 98) 98 (a, b)) := by
  chain_rfl

theorem row_eq (i : grid0.Coords) (x : Vec F S8x50257 .f32) :
    k0_pay4593 (k0_pay4596 i x) (k0_pay5734 i x) (k0_pay5735 i x) (k0_pay5736 i x) (k0_pay5745 i x)
      = rowIdx (after lanes (k0_pay1 i) x 99) := by
  rw [last_eq, max_eq, idx_eq]
  rfl

theorem out1_eq (i : grid0.Coords) (x : Vec F S8x50257 .f32) :
    k0_pay4594 (k0_pay4596 i x) (k0_pay5734 i x) (k0_pay5735 i x) (k0_pay5736 i x) (k0_pay5745 i x)
      = broadcastTo S8x128 (shapeCast S8x1 (rowIdx (after lanes (k0_pay1 i) x 99)) shapeCasts_S8x1_S8x1) broadcasts_S8x1_S8x128 := by
  rw [← row_eq]
  rfl

theorem out2_eq (i : grid0.Coords) (x : Vec F S8x50257 .f32) :
    k0_pay4595 (k0_pay4596 i x) (k0_pay5734 i x) (k0_pay5735 i x) (k0_pay5736 i x) (k0_pay5745 i x)
      = sitofp .f32 (broadcastTo S8x128 (shapeCast S8x1 (rowIdx (after lanes (k0_pay1 i) x 99)) shapeCasts_S8x1_S8x1)
        broadcasts_S8x1_S8x128) := by
  rw [← row_eq]
  rfl

end Cert.Chunks
-- ==== Proof.Rows.lean ====
/-
  The row argmax's body read at a row of its block: the column it finds is the first at which the perturbed row is largest.
-/
module

public import proofs.«01_k».proof.Proof.Chunks
public import proofs.«01_k».proof.Proof.First
public import Idealize.ShloMosaic.Lib.Pipeline.ValueKit
public import Idealize.ShloMosaic.Lib.ValueLayout

@[expose] public section

set_option maxRecDepth 16384

noncomputable section

namespace Cert.Rows

open Idealize.ShloMosaic Cert.KernelIdeal Cert.KernelIdeal.Gen Cert.Noise Cert.Chunks

/-- Row `p` of a block, extended by zero past its end. -/
def ext {n : ℕ} (x : (⟨2, ![n, 50257]⟩ : Shape).Idx → EReal) (p : Fin n) (u : ℕ) : EReal :=
  if h : u < 50257 then x (ix2 p ⟨u, h⟩) else 0

theorem col_le (c : ℕ) : col c ≤ 49745 := Nat.min_le_right _ _

theorem ofBool_true : BitVec.ofBool true = 1#1 := rfl

theorem lanes_apply (p : Fin 8) (l : Fin 512) : lanes (ix2 p l) = BitVec.ofNat 32 l.val :=
  iota_single_apply _ _ _ _ _ _

theorem base_apply (i : grid0.Coords) (p : Fin 8) (l : Fin 512) :
    k0_pay1 i (ix2 p l) = BitVec.ofNat 32 ((8 * (i 0).val + p.val) * 50257 + l.val) := by
  have e : k0_pay1 i (ix2 p l) = iota .tc S8x512 32 [0] iota_S8x512_d0_w32 (ix2 p l) * 50257#32
      + iota .tc S8x512 32 [1] iota_S8x512_d1_w32 (ix2 p l) + BitVec.ofNat 32 (i 0).val * 402056#32 := by
    chain_rfl
  rw [e, iota_single_apply, iota_single_apply,
    show (8 * (i 0).val + p.val) * 50257 + l.val = p.val * 50257 + l.val + (i 0).val * 402056 by ring]
  simp only [BitVec.ofNat_add, BitVec.ofNat_mul]
  rfl

theorem load_apply (x : Vec Ideal S8x50257 .f32) (c : ℕ) (p : Fin 8) (l : Fin 512) :
    shapeCast S8x512 (View.ld x (Rect.unit (s := S8x50257) ![0, col c] S8x512.size (inb c))) shapeCasts_S8x512_S8x512 (ix2 p l)
      = ext x p (col c + l.val) := by
  have hc := col_le c
  have hl := l.isLt
  have hlt : col c + l.val < 50257 := by omega
  rw [ext, dif_pos hlt]
  refine (congrFun (shapeCast_self _ shapeCasts_S8x512_S8x512) _).trans ?_
  exact View.ld_unit_apply_of (Val := Elt Ideal) (e := .f32) x ![0, col c] S8x512.size (inb c) (ix2 p l) _ fun a => by
    match a with
    | ⟨0, _⟩ => exact (Nat.zero_add _).symm
    | ⟨1, _⟩ => rfl

theorem bits_apply (i : grid0.Coords) (c : ℕ) (p : Fin 8) (l : Fin 512) :
    bits (vec S8x512) (broadcast S8x512 0#32) (broadcast S8x512 42#32) (broadcast S8x512 466689008#32)
      (addi (broadcast S8x512 0#32) (broadcast S8x512 0#32))
      (addi (addi (k0_pay1 i) (broadcast S8x512 (BitVec.ofNat 32 (col c)))) (broadcast S8x512 42#32)) (ix2 p l)
      = word (BitVec.ofNat 32 ((8 * (i 0).val + p.val) * 50257 + (col c + l.val))) := by
  refine ((vec_respects S8x512 (ix2 p l)).bits _ _ _ _ _).trans ?_
  have e : addi (addi (k0_pay1 i) (broadcast S8x512 (BitVec.ofNat 32 (col c)))) (broadcast S8x512 42#32) (ix2 p l)
      = BitVec.ofNat 32 ((8 * (i 0).val + p.val) * 50257 + (col c + l.val)) + 42#32 := by
    show k0_pay1 i (ix2 p l) + BitVec.ofNat 32 (col c) + 42#32 = _
    rw [base_apply, ← BitVec.ofNat_add, Nat.add_assoc, Nat.add_comm l.val]
  exact bits_congr lane rfl rfl rfl rfl e

theorem pert_apply (i : grid0.Coords) (x : Vec Ideal S8x50257 .f32) (c : ℕ) (p : Fin 8) (l : Fin 512) :
    pert (F := Ideal) (k0_pay1 i) x c (ix2 p l) = ext x p (col c + l.val) + noise (8 * (i 0).val + p.val) (col c + l.val) :=
  congrArg₂ (· + ·) (load_apply x c p l) ((gumV_apply _ _ _).trans (congrArg gum (bits_apply i c p l)))

theorem bot_bits : Ideal.ofBits .f32 0xFF800000#32 = (⊥ : EReal) := by
  simp [Ideal.ofBits, Ideal.ieee]

/-- A lane's maximum and column after each span. -/
theorem after_fst (i : grid0.Coords) (x : Vec Ideal S8x50257 .f32) (n : ℕ) (p : Fin 8) (l : Fin 512) :
    (after (F := Ideal) lanes (k0_pay1 i) x (n + 1)).1 (ix2 p l)
      = if (after (F := Ideal) lanes (k0_pay1 i) x n).1 (ix2 p l) < pert (F := Ideal) (k0_pay1 i) x n (ix2 p l)
        then pert (F := Ideal) (k0_pay1 i) x n (ix2 p l) else (after (F := Ideal) lanes (k0_pay1 i) x n).1 (ix2 p l) := by
  show (if BitVec.ofBool (decide ((after (F := Ideal) lanes (k0_pay1 i) x n).1 (ix2 p l)
    < pert (F := Ideal) (k0_pay1 i) x n (ix2 p l))) = 1#1 then _ else _) = _
  by_cases h : (after (F := Ideal) lanes (k0_pay1 i) x n).1 (ix2 p l) < pert (F := Ideal) (k0_pay1 i) x n (ix2 p l)
  · rw [if_pos h, decide_eq_true h]; rfl
  · rw [if_neg h, decide_eq_false h]; rfl

theorem after_snd (i : grid0.Coords) (x : Vec Ideal S8x50257 .f32) (n : ℕ) (p : Fin 8) (l : Fin 512) :
    (after (F := Ideal) lanes (k0_pay1 i) x (n + 1)).2 (ix2 p l)
      = if (after (F := Ideal) lanes (k0_pay1 i) x n).1 (ix2 p l) < pert (F := Ideal) (k0_pay1 i) x n (ix2 p l)
        then BitVec.ofNat 32 (col n + l.val) else (after (F := Ideal) lanes (k0_pay1 i) x n).2 (ix2 p l) := by
  have e : BitVec.ofNat 32 (col n + l.val) = BitVec.ofNat 32 l.val + BitVec.ofNat 32 (col n) := by
    rw [Nat.add_comm, BitVec.ofNat_add]
  rw [e]
  show (if BitVec.ofBool (decide ((after (F := Ideal) lanes (k0_pay1 i) x n).1 (ix2 p l)
    < pert (F := Ideal) (k0_pay1 i) x n (ix2 p l))) = 1#1 then _ else _) = _
  by_cases h : (after (F := Ideal) lanes (k0_pay1 i) x n).1 (ix2 p l) < pert (F := Ideal) (k0_pay1 i) x n (ix2 p l)
  · rw [if_pos h, decide_eq_true h, ofBool_true, if_pos rfl]; exact congrArg (· + BitVec.ofNat 32 (col n)) (lanes_apply p l)
  · rw [if_neg h, decide_eq_false h]; rfl

/-- The row's column, from its lanes': a minimum over the lanes that reach the row's maximum. -/
theorem rowIdx_apply (q : FVec Ideal S8x512 .f32 × IVec S8x512 32) (p : Fin 8) :
    rowIdx q (ix2 p (0 : Fin 1)) = Finset.univ.fold IntOp.minsi 2147483647#32 fun l : Fin 512 =>
      if q.1 (ix2 p l) = Finset.univ.fold max ⊥ (fun l : Fin 512 => q.1 (ix2 p l)) then q.2 (ix2 p l) else 1073741824#32 := by
  have lift : ∀ (l : Fin 512), reduces_S8x512_S8.lift (ix1 p : S8.Idx) l = (ix2 p l : S8x512.Idx) := by
    intro l
    funext a
    match a with
    | ⟨0, _⟩ => rfl
    | ⟨1, _⟩ => rfl
  have cast : ∀ {α : Type} (z : S8.Idx → α), shapeCast S8x1 z shapeCasts_S8_S8x1 (ix2 p (0 : Fin 1)) = z (ix1 p) := by
    intro α z
    exact shapeCast_apply _ _ _ _ (by rw [Shape.rowMajor_val_two, Shape.rowMajor_val_one]; show p.val = p.val * 1 + 0; omega)
  have hmax : ∀ l : Fin 512, broadcastTo S8x512 (shapeCast S8x1 (multiReduction (F := Ideal) .maximumf [1] S8 q.1 0xFF800000#32
      reduces_S8x512_S8 (.inl rfl) rfl) shapeCasts_S8_S8x1) broadcasts_S8x1_S8x512 (ix2 p l)
      = Finset.univ.fold max ⊥ (fun l : Fin 512 => q.1 (ix2 p l)) := by
    intro l
    rw [broadcastTo_apply _ _ _ (ix2 p (0 : Fin 1)) (fun a => by
      match a with
      | ⟨0, _⟩ => rfl
      | ⟨1, _⟩ => rfl), cast]
    refine (Ideal.multiReduction_maximumf_single _ _ _ _ _ _).trans ?_
    refine (congrArg (fun b => Finset.univ.fold max b _) bot_bits).trans ?_
    exact congrArg (Finset.univ.fold max ⊥) (funext fun l => congrArg q.1 (lift l))
  unfold rowIdx
  refine (cast _).trans ((multiReductionI_eq_fold _ _ _ _ _ _).trans ?_)
  refine (reduces_S8x512_S8.fold_filter_drop_single IntOp.minsi _ _ _).trans ?_
  refine congrArg (Finset.univ.fold IntOp.minsi 2147483647#32) (funext fun (l : Fin 512) => ?_)
  refine (congrArg _ (lift l)).trans ?_
  show (if BitVec.ofBool (decide (q.1 (ix2 p l) = _)) = 1#1 then _ else _) = _
  rw [hmax l]
  by_cases h : q.1 (ix2 p l) = Finset.univ.fold max ⊥ (fun l : Fin 512 => q.1 (ix2 p l))
  · rw [if_pos h, decide_eq_true h]; rfl
  · rw [if_neg h, decide_eq_false h]; rfl

/-- The perturbed row `p` of block `i`. -/
def pertRow (i : grid0.Coords) (x : Vec Ideal S8x50257 .f32) (p : Fin 8) (u : ℕ) : EReal :=
  ext x p u + noise (8 * (i 0).val + p.val) u

theorem row_apply (i : grid0.Coords) (x : Vec Ideal S8x50257 .f32) (p : Fin 8) (v : ℕ)
    (hv : First.IsFirst 50257 (pertRow i x p) v) (hb : ⊥ < pertRow i x p v) :
    rowIdx (after (F := Ideal) lanes (k0_pay1 i) x 99) (ix2 p (0 : Fin 1)) = BitVec.ofNat 32 v := by
  rw [rowIdx_apply]
  refine First.lanes 50257 99 (pertRow i x p) col (fun l : Fin 512 => l.val) ?_ ?_ ?_ (by norm_num) _ _ (fun l => ?_) _
    (fun l => ?_) ?_ v hv hb _ (by decide)
  · intro a b hab
    exact min_le_min_right _ (Nat.mul_le_mul_left _ hab)
  · intro c l _
    have := col_le c
    omega
  · intro u hu
    by_cases h : u < 49745
    · refine ⟨u / 512, ⟨u % 512, Nat.mod_lt _ (by norm_num)⟩, by omega, ?_⟩
      show u = min (512 * (u / 512)) 49745 + u % 512
      omega
    · refine ⟨98, ⟨u - 49745, by omega⟩, by omega, ?_⟩
      show u = min (512 * 98) 49745 + (u - 49745)
      omega
  · refine First.lane (pertRow i x p) (fun c => col c + l.val) (fun n => (after (F := Ideal) lanes (k0_pay1 i) x n).1 (ix2 p l))
      (fun n => (after (F := Ideal) lanes (k0_pay1 i) x n).2 (ix2 p l)) bot_bits (fun n => ?_) (fun n => ?_) 99
    · beta_reduce
      rw [after_fst, pert_apply]
      rfl
    · beta_reduce
      rw [after_snd, pert_apply]
      rfl
  · exact (Finset.le_fold_max _).2 (.inr ⟨l, Finset.mem_univ _, le_rfl⟩)
  · have h := First.fold_keeps (fun a b : EReal => b ≤ a) max (fun a b c h g => le_trans g h) (fun _ => le_rfl)
      (fun a b => ⟨max_choice a b, le_max_left _ _, le_max_right _ _⟩) Finset.univ
      (fun l : Fin 512 => (after (F := Ideal) lanes (k0_pay1 i) x 99).1 (ix2 p l)) ⊥
    exact h.1.imp id fun ⟨l, _, h⟩ => ⟨l, h⟩

end Cert.Rows
-- ==== Proof.Final.lean ====
/-
  The kernel's run with every buffer it leaves named: the launch of the frame, its last state read at each unscoped buffer.
-/
module

public import proofs.«01_k».proof.Proof.Gen.KernelIdeal.Frame

@[expose] public section

set_option maxRecDepth 16384

noncomputable section

namespace Cert.KernelIdeal.Final

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates with the argument as launched and the two results at the last boundary's contents. -/
theorem run : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_v6) = W4 m ρ c (Proc.devRef .tc main_v6)
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c => ⟨h c _ (mem_uc main_v5 (by decide)), h c _ (mem_uc main_v6 (by decide)),
      (h c _ (mem_uc main_arg0 (by decide))).trans (W4_main_arg0 m ρ c)⟩)

end Cert.KernelIdeal.Final
-- ==== Proof.KernelVal.lean ====
/-
  What the kernel leaves: each row's first column at which the perturbed logits are largest, and the one-hot row of it.
-/
module

public import proofs.«01_k».proof.Proof.Rows
public import proofs.«01_k».proof.Proof.Final

@[expose] public section

set_option maxRecDepth 16384

noncomputable section

namespace Cert.KernelIdeal.Final

open Idealize.ShloMosaic Idealize.ShloMosaic.TcCoe Idealize.ShloMosaic.Pipeline Idealize.SL.Sem
open Cert.KernelIdeal.Gen Cert.Noise Cert.Rows

/-- Row `r` of the logits, extended by zero past its end, with its noise. -/
def pertAt (X : S1x1024x50257.Idx → EReal) (r u : ℕ) : EReal :=
  (if h : r < 1024 ∧ u < 50257 then X (ix3 (0 : Fin 1) ⟨r, h.1⟩ ⟨u, h.2⟩) else 0) + noise r u

/-- The first column at which row `r` is largest. -/
def am (X : S1x1024x50257.Idx → EReal) (r : ℕ) : ℕ :=
  (First.exists_first (n := 50257) (by norm_num) (pertAt X r)).choose

theorem am_first (X : S1x1024x50257.Idx → EReal) (r : ℕ) : First.IsFirst 50257 (pertAt X r) (am X r) :=
  (First.exists_first (n := 50257) (by norm_num) (pertAt X r)).choose_spec

variable (m : (ℓ : Loc nD τ sig) → Buf (Elt Ideal) ℓ) (ρ : Dev nD → PrngReg) (c : Dev nD)

/-- The logits. -/
abbrev X : S1x1024x50257.Idx → EReal := m ((c.tc : Thread nD τ).loc main_arg0)

theorem entry0 : (V1 m ρ c main_v0 : S1024x50257.Idx → EReal) = shapeCast S1024x50257 (X m c) shapeCasts_S1x1024x50257_S1024x50257 := by
  rfl

theorem entry0_apply (r : Fin 1024) (u : Fin 50257) : (V1 m ρ c main_v0 : S1024x50257.Idx → EReal) (ix2 r u) = X m c (ix3 (0 : Fin 1) r u) := by
  rw [entry0]
  exact shapeCast_apply _ _ _ _ (by
    rw [Shape.rowMajor_val_two, Shape.rowMajor_val_three]
    show (0 * 1024 + r.val) * 50257 + u.val = r.val * 50257 + u.val
    omega)

theorem idx0_0 : ∀ t : Fin cfg0.N, win0_0.index t = ![(grid0.coords t 0).val, 0] := by decide +kernel
theorem idx0_1 : ∀ t : Fin cfg0.N, win0_1.index t = ![(grid0.coords t 0).val, 0] := by decide +kernel

theorem pertRow_eq (t : Fin cfg0.N) (p : Fin 8) :
    pertRow (grid0.coords t) (iblk0 (V1 m ρ) c 0 t) p = pertAt (X m c) (8 * (grid0.coords t 0).val + p.val) := by
  funext u
  unfold pertRow pertAt ext
  have ht : (grid0.coords t 0).val < 128 := (grid0.coords t 0).isLt
  by_cases hu : u < 50257
  · rw [dif_pos hu, dif_pos ⟨by omega, hu⟩]
    congr 1
    rw [← entry0_apply m ρ c]
    blk_ext [iblk0, idx0_0 t]
  · rw [dif_neg hu, dif_neg (fun h => hu h.2)]

/-- Both results of the row argmax are a row's column, spread over 128 lanes. -/
theorem spread_apply (z : IVec S8x1 32) (y : S8x128.Idx) :
    broadcastTo S8x128 (shapeCast S8x1 z shapeCasts_S8x1_S8x1) broadcasts_S8x1_S8x128 y = z (ix2 (y 0) (0 : Fin 1)) := by
  refine (broadcastTo_apply _ _ _ (ix2 (y 0) (0 : Fin 1)) (fun a => by
    match a with
    | ⟨0, _⟩ => rfl
    | ⟨1, _⟩ => rfl)).trans ?_
  exact congrFun (shapeCast_self _ _) _

theorem pay_apply (hb : ∀ r, r < 1024 → ⊥ < pertAt (X m c) r (am (X m c) r)) (t : Fin cfg0.N) (y : S8x128.Idx) :
    Chunks.rowIdx (Chunks.after (F := Ideal) Chunks.lanes (k0_pay1 (grid0.coords t)) (iblk0 (V1 m ρ) c 0 t) 99) (ix2 (y 0) (0 : Fin 1))
      = BitVec.ofNat 32 (am (X m c) ((grid0.coords t 0).val * 8 + (y 0).val)) := by
  have ht : (grid0.coords t 0).val < 128 := (grid0.coords t 0).isLt
  have hy : (y 0).val < 8 := (y 0).isLt
  rw [Nat.mul_comm]
  refine row_apply (grid0.coords t) (iblk0 (V1 m ρ) c 0 t) (y 0) _ ?_ ?_
  · exact (congrArg (fun f => First.IsFirst 50257 f _) (pertRow_eq m ρ c t (y 0))).mpr (am_first _ _)
  · exact (congrArg (fun f : ℕ → EReal => ⊥ < f _) (pertRow_eq m ρ c t (y 0))).mpr (hb _ (by omega))

theorem arr0_1 (hb : ∀ r, r < 1024 → ⊥ < pertAt (X m c) r (am (X m c) r)) :
    ((dat0 (V1 m ρ) c).arrAt 1 cfg0.N : S1024x128.Idx → BitVec 32) = fun i => BitVec.ofNat 32 (am (X m c) (i 0).val) := by
  refine (dat0 (V1 m ρ) c).arrAt_eq_of_covers 1 _ (by decide +kernel) fun t hf y => ?_
  blk_simp
  rw [after0_1]
  frame_out
  refine (congrFun (Chunks.out1_eq _ _) y).trans ((spread_apply _ y).trans ((pay_apply m ρ c hb t y).trans ?_))
  rw [idx0_1 t]
  rfl

theorem idx0_2 : ∀ t : Fin cfg0.N, win0_2.index t = ![(grid0.coords t 0).val, 0] := by decide +kernel

theorem arr0_2 (hb : ∀ r, r < 1024 → ⊥ < pertAt (X m c) r (am (X m c) r)) :
    ((dat0 (V1 m ρ) c).arrAt 2 cfg0.N : S1024x128.Idx → EReal)
      = fun i => FloatOps.sitofp (F := Ideal) .f32 (BitVec.ofNat 32 (am (X m c) (i 0).val)) := by
  refine (dat0 (V1 m ρ) c).arrAt_eq_of_covers 2 _ (by decide +kernel) fun t hf y => ?_
  blk_simp
  rw [after0_2]
  frame_out
  refine (congrFun (Chunks.out2_eq _ _) y).trans (congrArg (FloatOps.sitofp (F := Ideal) .f32)
    ((spread_apply _ y).trans ((pay_apply m ρ c hb t y).trans ?_)))
  rw [idx0_2 t]
  rfl

/-! ### The one-hot rows -/

theorem entry1 : (V2 m ρ c main_v1_0 : S1024x128.Idx → BitVec 32) = (dat0 (V1 m ρ) c).arrAt 1 cfg0.N := W2_arr m ρ c 1

theorem idx1_0 : ∀ t : Fin cfg1.N, win1_0.index t = ![(grid1.coords t 0).val, 0] := by decide +kernel
theorem idx1_1 : ∀ t : Fin cfg1.N, win1_1.index t = ![(grid1.coords t 0).val, 0] := by decide +kernel

theorem onehot_apply (z : Vec Ideal S16x128 .i32) (y : S16x50257.Idx) :
    k1_pay1 (F := Ideal) (View.ld z r1_0) y = if BitVec.ofNat 32 (y 1).val = z (ix2 (y 0) (0 : Fin 128)) then (1 : EReal) else 0 := by
  have hz : broadcastTo S16x50257 (shapeCast S16x1 (View.ld z r1_0) shapeCasts_S16x1_S16x1) broadcasts_S16x1_S16x50257 y
      = z (ix2 (y 0) (0 : Fin 128)) := by
    refine (broadcastTo_apply _ _ _ (ix2 (y 0) (0 : Fin 1)) (fun a => by
      match a with
      | ⟨0, _⟩ => rfl
      | ⟨1, _⟩ => rfl)).trans ?_
    refine (congrFun (shapeCast_self _ _) _).trans ?_
    exact View.ld_unit_apply_of (Val := Elt Ideal) (e := .i32) z _ _ _ _ _ fun a => by
      match a with
      | ⟨0, _⟩ => exact (Nat.zero_add _).symm
      | ⟨1, _⟩ => rfl
  have hi : iota .tc S16x50257 32 [1] iota_S16x50257_d1_w32 y = BitVec.ofNat 32 (y 1).val := iota_single_apply _ _ _ _ _ _
  have e : k1_pay1 (F := Ideal) (View.ld z r1_0) y = Scalar.select
      (IntOp.cmpi .eq (iota .tc S16x50257 32 [1] iota_S16x50257_d1_w32 y)
        (broadcastTo S16x50257 (shapeCast S16x1 (View.ld z r1_0) shapeCasts_S16x1_S16x1) broadcasts_S16x1_S16x50257 y))
      (Ideal.ofBits .f32 0x3F800000#32) (Ideal.ofBits .f32 0x00000000#32) := by
    chain_rfl
  rw [e, hz, hi, Ideal.ofBits_one_f32, Ideal.ofBits_zero_f32]
  by_cases h : BitVec.ofNat 32 (y 1).val = z (ix2 (y 0) (0 : Fin 128))
  · rw [if_pos h, h]
    simp [IntOp.cmpi, Scalar.select]
  · rw [if_neg h]
    have hh : (BitVec.ofNat 32 (y 1).val == z (ix2 (y 0) (0 : Fin 128))) = false := beq_eq_false_iff_ne.2 h
    simp only [IntOp.cmpi, Scalar.select, hh]
    exact if_neg (by decide)

theorem arr1_1 (hb : ∀ r, r < 1024 → ⊥ < pertAt (X m c) r (am (X m c) r)) :
    ((dat1 (V2 m ρ) c).arrAt 1 cfg1.N : S1024x50257.Idx → EReal)
      = fun i => if BitVec.ofNat 32 (i 1).val = BitVec.ofNat 32 (am (X m c) (i 0).val) then (1 : EReal) else 0 := by
  refine (dat1 (V2 m ρ) c).arrAt_eq_of_covers 1 _ (by decide +kernel) fun t hf y => ?_
  blk_simp
  rw [after1_1]
  frame_out
  refine (onehot_apply _ y).trans ?_
  have e : (iblk1 (V2 m ρ) c 0 t : S16x128.Idx → BitVec 32) (ix2 (y 0) (0 : Fin 128))
      = (V2 m ρ c main_v1_0 : S1024x128.Idx → BitVec 32) (ix2 (⟨(grid1.coords t 0).val * 16 + (y 0).val, by
          have ht : (grid1.coords t 0).val < 64 := (grid1.coords t 0).isLt
          have hy : (y 0).val < 16 := (y 0).isLt
          omega⟩ : Fin 1024) (0 : Fin 128)) := by
    blk_ext [iblk1, idx1_0 t]
  rw [e, entry1, arr0_1 m ρ c hb, idx1_1 t]
  show _ = if BitVec.ofNat 32 (0 * 50257 + (y 1).val) = _ then _ else _
  rw [Nat.zero_mul, Nat.zero_add]
  rfl

/-! ### The results -/

/-- The results, over the logits. -/
def v5 (X : S1x1024x50257.Idx → EReal) : S1x1024.Idx → EReal :=
  fun j => FloatOps.sitofp (F := Ideal) .f32 (BitVec.ofNat 32 (am X (j 1).val))
def v6 (X : S1x1024x50257.Idx → EReal) : S1x1024x50257.Idx → EReal :=
  fun j => if BitVec.ofNat 32 (j 2).val = BitVec.ofNat 32 (am X (j 1).val) then (1 : EReal) else 0

theorem last5 (hb : ∀ r, r < 1024 → ⊥ < pertAt (X m c) r (am (X m c) r)) :
    (W4 m ρ c (Proc.devRef .tc main_v5) : S1x1024.Idx → EReal) = v5 (X m c) := by
  have e : (W4 m ρ c (Proc.devRef .tc main_v5) : S1x1024.Idx → EReal)
      = shapeCast S1x1024 (shapeCast S1024 (extractStridedSlice S1024x1 ![0, 0]
        (W3 m ρ c (Proc.devRef .tc main_v1_1) : S1024x128.Idx → EReal) slices_S1024x128_S1024x1_0_0) shapeCasts_S1024x1_S1024)
        shapeCasts_S1024_S1x1024 := rfl
  rw [e, W3_of m ρ c main_v1_1 (by decide +kernel)]
  rw [show (W2 m ρ c (Proc.devRef .tc main_v1_1) : S1024x128.Idx → EReal) = _ from W2_arr m ρ c 2, arr0_2 m ρ c hb]
  have key : ∀ (z : S1024x128.Idx → EReal) (r : Fin 1024), shapeCast S1x1024 (shapeCast S1024 (extractStridedSlice S1024x1 ![0, 0]
      z slices_S1024x128_S1024x1_0_0) shapeCasts_S1024x1_S1024) shapeCasts_S1024_S1x1024 (ix2 (0 : Fin 1) r) = z (ix2 r (0 : Fin 128)) := by
    intro z r
    refine (shapeCast_apply _ _ _ (ix1 r) ?_).trans ((shapeCast_apply _ _ _ (ix2 r (0 : Fin 1)) ?_).trans
      (extractStridedSlice_apply _ _ _ _ (ix2 r (0 : Fin 128)) fun a => ?_))
    · rw [Shape.rowMajor_val_two, Shape.rowMajor_val_one]
      show r.val = 0 * 1024 + r.val
      omega
    · rw [Shape.rowMajor_val_two, Shape.rowMajor_val_one]
      show r.val * 1 + 0 = r.val
      omega
    · match a with
      | ⟨0, _⟩ => exact (Nat.zero_add _).symm
      | ⟨1, _⟩ => rfl
  funext j
  have hj : j = (ix2 (0 : Fin 1) (j 1) : S1x1024.Idx) := by
    funext a
    match a with
    | ⟨0, _⟩ => exact Fin.ext (Nat.lt_one_iff.1 (j 0).isLt)
    | ⟨1, _⟩ => rfl
  exact (congrArg _ hj).trans (key _ (j 1))

theorem last6 (hb : ∀ r, r < 1024 → ⊥ < pertAt (X m c) r (am (X m c) r)) :
    (W4 m ρ c (Proc.devRef .tc main_v6) : S1x1024x50257.Idx → EReal) = v6 (X m c) := by
  have e : (W4 m ρ c (Proc.devRef .tc main_v6) : S1x1024x50257.Idx → EReal)
      = shapeCast S1x1024x50257 (W3 m ρ c (Proc.devRef .tc main_v2) : S1024x50257.Idx → EReal) shapeCasts_S1024x50257_S1x1024x50257 := rfl
  rw [e, show (W3 m ρ c (Proc.devRef .tc main_v2) : S1024x50257.Idx → EReal) = _ from W3_arr m ρ c 1, arr1_1 m ρ c hb]
  funext j
  have e0 : (j 0).val = 0 := Nat.lt_one_iff.1 (j 0).isLt
  refine (shapeCast_apply _ _ _ (ix2 (j 1) (j 2)) ?_).trans ?_
  · rw [Shape.rowMajor_val_two, Shape.rowMajor_val_three]
    show (j 1).val * 50257 + (j 2).val = ((j 0).val * 1024 + (j 1).val) * 50257 + (j 2).val
    rw [e0, Nat.zero_mul, Nat.zero_add]
  · rfl

end Cert.KernelIdeal.Final
-- ==== Proof.RefVal.lean ====
/-
  What the reference leaves, for logits each of whose rows has a largest entry that is a real number: the first column at which the
  perturbed row is largest, and the one-hot row of it.
-/
module

public import proofs.«01_k».proof.Proof.RefNoise
public import proofs.«01_k».proof.Proof.Soft
public import proofs.«01_k».proof.Proof.KernelVal
public import proofs.«01_k».proof.Pre_row_max_finite

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Noise Cert.First Cert.Soft
open Cert.KernelIdeal.Final (pertAt am am_first v5 v6)

/-! ### Reductions over a row -/

theorem reduces : S1x1024x50257.Reduces [2] S1x1024 := by decide

theorem lift_eq (j : S1x1024.Idx) (k : Fin 50257) : reduces.lift j k = ix3 (0 : Fin 1) (j 1) k := by
  funext a
  match a with
  | ⟨0, _⟩ => exact Fin.ext (by
      have h := (reduces.lift j k 0).isLt
      exact Nat.lt_one_iff.1 h)
  | ⟨1, _⟩ => rfl
  | ⟨2, _⟩ => rfl

/-- A row's largest entry. -/
theorem rowMax_eq (x : S1x1024x50257.Idx → EReal) (h' : S1x1024x50257.ReducesTo [2] S1x1024) (hu : 0 < S_.numel) (j : S1x1024.Idx) :
    (Host.reduce (FloatOps.maximumf (F := Ideal) (φ := .f32)) x (constant (F := Ideal) S_ .f32 0xFF800000#32) h' hu j = ⊥
        ∨ ∃ k : Fin 50257, Host.reduce (FloatOps.maximumf (F := Ideal) (φ := .f32)) x (constant (F := Ideal) S_ .f32 0xFF800000#32) h' hu j
          = x (ix3 (0 : Fin 1) (j 1) k))
      ∧ ∀ k : Fin 50257, x (ix3 (0 : Fin 1) (j 1) k)
          ≤ Host.reduce (FloatOps.maximumf (F := Ideal) (φ := .f32)) x (constant (F := Ideal) S_ .f32 0xFF800000#32) h' hu j := by
  have e := Host.reduce_eq_fold_single (FloatOps.maximumf (F := Ideal) (φ := .f32)) x (constant (F := Ideal) S_ .f32 0xFF800000#32) h' reduces hu j
  obtain ⟨h1, h2⟩ := fold_keeps (fun p q : EReal => q ≤ p) (FloatOps.maximumf (F := Ideal) (φ := .f32)) (fun _ _ _ h h' => h'.trans h)
    (fun _ => le_rfl) (fun a b => ⟨max_choice a b, le_max_left a b, le_max_right a b⟩) (Finset.univ : Finset (Fin 50257)) (x ∘ reduces.lift j)
    (Ideal.ofBits .f32 0xFF800000#32)
  rw [Cert.Rows.bot_bits] at h1 h2
  have e' : Host.reduce (FloatOps.maximumf (F := Ideal) (φ := .f32)) x (constant (F := Ideal) S_ .f32 0xFF800000#32) h' hu j
      = (Finset.univ : Finset (Fin 50257)).fold (FloatOps.maximumf (F := Ideal) (φ := .f32)) ⊥ (x ∘ reduces.lift j) :=
    e.trans (congrArg (fun b => (Finset.univ : Finset (Fin 50257)).fold (FloatOps.maximumf (F := Ideal) (φ := .f32)) b (x ∘ reduces.lift j)) Cert.Rows.bot_bits)
  rw [e']
  refine ⟨h1.imp id fun ⟨k, _, h⟩ => ⟨k, h.trans (congrArg x (lift_eq j k))⟩, fun k => ?_⟩
  exact (le_of_eq (congrArg x (lift_eq j k)).symm).trans (h2 k (Finset.mem_univ k))

/-- A row's sum. -/
theorem rowSum_eq (x : S1x1024x50257.Idx → EReal) (h' : S1x1024x50257.ReducesTo [2] S1x1024) (hu : 0 < S_.numel) (j : S1x1024.Idx) :
    Host.reduceAdd (F := Ideal) (φ := .f32) x (constant (F := Ideal) S_ .f32 0x00000000#32) h' hu j = ∑ k : Fin 50257, x (ix3 (0 : Fin 1) (j 1) k) := by
  refine (Ideal.hostReduceAdd_single h' reduces x (Ideal.ofBits .f32 0x00000000#32) j).trans ?_
  rw [Ideal.ofBits_zero_f32, zero_add]
  exact Finset.sum_congr rfl fun k _ => congrArg x (lift_eq j k)

/-- A row's number spread over its columns. -/
theorem rowSpread_apply {α : Type} (z : S1x1024.Idx → α) (r : Fin 1024) (v : Fin 50257) :
    broadcastInDim S1x1024x50257 ![0, 1, 2] bcast_S1x1024x1_S1x1024x50257_0_1_2 (broadcastInDim S1x1024x1 ![0, 1] bcast_S1x1024_S1x1024x1_0_1 z)
      (ix3 (0 : Fin 1) r v) = z (ix2 (0 : Fin 1) r) := by
  refine (broadcastInDim_apply _ _ _ _ (ix3 (0 : Fin 1) r (0 : Fin 1)) (fun a => by
    match a with
    | ⟨0, _⟩ => rfl
    | ⟨1, _⟩ => rfl
    | ⟨2, _⟩ => rfl)).trans ?_
  exact broadcastInDim_apply _ _ _ _ (ix2 (0 : Fin 1) r) (fun a => by
    match a with
    | ⟨0, _⟩ => rfl
    | ⟨1, _⟩ => rfl)

/-- Every entry of a rank-three array with one plane. -/
theorem idx_eq (j : S1x1024x50257.Idx) : j = ix3 (0 : Fin 1) (j 1) (j 2) := by
  funext a
  match a with
  | ⟨0, _⟩ => exact Fin.ext (Nat.lt_one_iff.1 (j 0).isLt)
  | ⟨1, _⟩ => rfl
  | ⟨2, _⟩ => rfl

/-! ### The perturbed rows -/

variable (V0 : Valuation τ sig (Elt Ideal))

theorem v20_row (r : Fin 1024) (v : Fin 50257) : res_main_v20 V0 (ix3 (0 : Fin 1) r v) = pertAt (logits V0) r.val v.val := by
  refine (v20_apply V0 _).trans ?_
  unfold pertAt
  rw [dif_pos ⟨r.isLt, v.isLt⟩]
  rfl

/-- Each row of the logits is below `⊤` and not everywhere `⊥`. -/
def Rows (X : S1x1024x50257.Idx → EReal) : Prop :=
  ∀ r : Fin 1024, (∀ v : Fin 50257, X (ix3 (0 : Fin 1) r v) < ⊤) ∧ ∃ v : Fin 50257, ⊥ < X (ix3 (0 : Fin 1) r v)

theorem pert_bot {X : S1x1024x50257.Idx → EReal} (hX : Rows X) (r : ℕ) (hr : r < 1024) : ⊥ < pertAt X r (am X r) := by
  obtain ⟨v, hv⟩ := (hX ⟨r, hr⟩).2
  refine lt_of_lt_of_le ?_ ((am_first X r).le v.val v.isLt)
  obtain ⟨g, hg⟩ := noise_real r v.val
  unfold pertAt
  rw [dif_pos ⟨hr, v.isLt⟩, hg]
  exact EReal.bot_lt_add_iff.2 ⟨hv, EReal.bot_lt_coe g⟩

theorem pert_top {X : S1x1024x50257.Idx → EReal} (hX : Rows X) (r : ℕ) (hr : r < 1024) : pertAt X r (am X r) < ⊤ := by
  have hlt := (am_first X r).lt
  obtain ⟨g, hg⟩ := noise_real r (am X r)
  unfold pertAt
  rw [dif_pos ⟨hr, hlt⟩, hg]
  exact EReal.add_lt_top ((hX ⟨r, hr⟩).1 ⟨_, hlt⟩).ne (EReal.coe_ne_top g)

theorem pert_real {X : S1x1024x50257.Idx → EReal} (hX : Rows X) (r : ℕ) (hr : r < 1024) : ∃ M : ℝ, pertAt X r (am X r) = M :=
  ⟨_, (EReal.coe_toReal (pert_top hX r hr).ne (pert_bot hX r hr).ne').symm⟩

/-! ### The softmax -/

/-- The perturbed logits, their exponentials and the softmax, as numbers. -/
abbrev pert : S1x1024x50257.Idx → EReal := res_main_v20 V0
abbrev expo : S1x1024x50257.Idx → EReal := res_main_v27 V0
abbrev smax : S1x1024x50257.Idx → EReal := res_main_v31 V0

/-- The row maxima and row sums. -/
abbrev rowMax (x : S1x1024x50257.Idx → EReal) : S1x1024.Idx → EReal :=
  Host.reduce (FloatOps.maximumf (F := Ideal) (φ := .f32)) x (constant (F := Ideal) S_ .f32 0xFF800000#32) reducesTo_S1x1024x50257_S1x1024_d2 h_S_
abbrev rowSum (x : S1x1024x50257.Idx → EReal) : S1x1024.Idx → EReal :=
  Host.reduceAdd (F := Ideal) (φ := .f32) x (constant (F := Ideal) S_ .f32 0x00000000#32) reducesTo_S1x1024x50257_S1x1024_d2 h_S_

theorem exp_spelt (x : S1x1024x50257.Idx → EReal) (z : S1x1024.Idx → EReal) (r : Fin 1024) (v : Fin 50257) :
    (Host.exp (F := Ideal) (φ := .f32) (subf (F := Ideal) (φ := .f32) x (broadcastInDim S1x1024x50257 ![0, 1, 2] bcast_S1x1024x1_S1x1024x50257_0_1_2
      (broadcastInDim S1x1024x1 ![0, 1] bcast_S1x1024_S1x1024x1_0_1
        (maximumf (F := Ideal) (φ := .f32) (broadcastInDim S1x1024 ![] bcast_S_S1x1024 (constant S_ .f32 0xFF800000#32)) z)))) : S1x1024x50257.Idx → EReal)
      (ix3 (0 : Fin 1) r v) = Ideal.exp (x (ix3 (0 : Fin 1) r v) - max (Ideal.ofBits .f32 0xFF800000#32) (z (ix2 (0 : Fin 1) r))) :=
  congrArg (fun w : EReal => Ideal.exp (x (ix3 (0 : Fin 1) r v) - w)) (rowSpread_apply
    (maximumf (F := Ideal) (φ := .f32) (broadcastInDim S1x1024 ![] bcast_S_S1x1024 (constant S_ .f32 0xFF800000#32)) z) r v)

theorem div_spelt (x : S1x1024x50257.Idx → EReal) (z : S1x1024.Idx → EReal) (r : Fin 1024) (v : Fin 50257) :
    (Host.divf (F := Ideal) (φ := .f32) x (broadcastInDim S1x1024x50257 ![0, 1, 2] bcast_S1x1024x1_S1x1024x50257_0_1_2
      (broadcastInDim S1x1024x1 ![0, 1] bcast_S1x1024_S1x1024x1_0_1 z)) : S1x1024x50257.Idx → EReal)
      (ix3 (0 : Fin 1) r v) = Ideal.div (x (ix3 (0 : Fin 1) r v)) (z (ix2 (0 : Fin 1) r)) :=
  congrArg (fun w : EReal => Ideal.div (x (ix3 (0 : Fin 1) r v)) w) (rowSpread_apply z r v)

theorem expo_spelt (r : Fin 1024) (v : Fin 50257) : expo V0 (ix3 (0 : Fin 1) r v)
    = Ideal.exp (pert V0 (ix3 (0 : Fin 1) r v) - max (Ideal.ofBits .f32 0xFF800000#32) (rowMax (pert V0) (ix2 (0 : Fin 1) r))) :=
  exp_spelt (pert V0) (rowMax (pert V0)) r v

theorem smax_spelt (r : Fin 1024) (v : Fin 50257) : smax V0 (ix3 (0 : Fin 1) r v)
    = Ideal.div (expo V0 (ix3 (0 : Fin 1) r v)) (rowSum (expo V0) (ix2 (0 : Fin 1) r)) :=
  div_spelt (expo V0) (rowSum (expo V0)) r v

theorem pert_max (r : Fin 1024) : rowMax (pert V0) (ix2 (0 : Fin 1) r) = pertAt (logits V0) r.val (am (logits V0) r.val) := by
  have hf := am_first (logits V0) r.val
  obtain ⟨h1, h2⟩ := rowMax_eq (pert V0) reducesTo_S1x1024x50257_S1x1024_d2 h_S_ (ix2 (0 : Fin 1) r)
  refine le_antisymm ?_ (le_trans (le_of_eq (v20_row V0 r ⟨_, hf.lt⟩).symm) (h2 ⟨_, hf.lt⟩))
  rcases h1 with h1 | ⟨k, h1⟩
  · exact (le_of_eq h1).trans bot_le
  · exact (le_of_eq (h1.trans (v20_row V0 r k))).trans (hf.le k.val k.isLt)

theorem expo_row (r : Fin 1024) (M : ℝ) (hM : pertAt (logits V0) r.val (am (logits V0) r.val) = M) (v : Fin 50257) :
    expo V0 (ix3 (0 : Fin 1) r v) = Ideal.exp (pertAt (logits V0) r.val v.val - (M : EReal)) := by
  refine (expo_spelt V0 r v).trans ?_
  rw [pert_max, hM, Cert.Rows.bot_bits, max_eq_right bot_le]
  exact congrArg (fun w : EReal => Ideal.exp (w - (M : EReal))) (v20_row V0 r v)

theorem smax_row (r : Fin 1024) (M : ℝ) (hM : pertAt (logits V0) r.val (am (logits V0) r.val) = M) (v : Fin 50257) :
    smax V0 (ix3 (0 : Fin 1) r v) = ((soft 50257 M (pertAt (logits V0) r.val) v.val : ℝ) : EReal) := by
  refine (smax_spelt V0 r v).trans (Eq.trans ?_ (div_eq (am_first (logits V0) r.val) hM v.val v.isLt))
  refine congrArg₂ Ideal.div (expo_row V0 r M hM v) ((rowSum_eq _ _ _ _).trans ?_)
  exact Finset.sum_congr rfl fun k _ => expo_row V0 r M hM k

/-! ### The argmax -/

theorem mem_fiber {s t : Shape} {axes : List (Fin s.rank)} {α β : Type} (x : s.Idx → α) (y : s.Idx → β) (h : s.ReducesTo axes t) (j : t.Idx)
    (p : α × β) : p ∈ Host.argReduceFiber x y h j ↔ ∃ i, h.drop i = j ∧ p = (x i, y i) := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, decide_eq_true ?_⟩, ?_⟩
    · rw [Equiv.symm_apply_apply]
      exact hi
    · rw [Equiv.symm_apply_apply]

/-- The pairs of a row: its values beside their columns. -/
theorem mem_row (x : S1x1024x50257.Idx → EReal) (r : Fin 1024) (z : ℕ → EReal) (hx : ∀ k : Fin 50257, x (ix3 (0 : Fin 1) r k) = z k.val)
    (p : EReal × BitVec 32) :
    (∃ i : S1x1024x50257.Idx, reduces.drop i = ix2 (0 : Fin 1) r ∧ p = (x i, iotaInDim S1x1024x50257 32 2 i))
      ↔ ∃ k, k < 50257 ∧ p = (z k, BitVec.ofNat 32 k) := by
  constructor
  · rintro ⟨i, hd, rfl⟩
    have hi := reduces.lift_drop i
    rw [hd] at hi
    have hi' := (lift_eq (ix2 (0 : Fin 1) r) (i 2)).symm.trans hi
    exact ⟨(i 2).val, (i 2).isLt, Prod.ext ((congrArg x hi').symm.trans (hx (i 2))) rfl⟩
  · rintro ⟨k, hk, rfl⟩
    refine ⟨ix3 (0 : Fin 1) r ⟨k, hk⟩, ?_, Prod.ext (hx ⟨k, hk⟩).symm rfl⟩
    refine Eq.trans ?_ (reduces.drop_lift (ix2 (0 : Fin 1) r) ⟨k, hk⟩)
    exact congrArg reduces.drop (lift_eq (ix2 (0 : Fin 1) r) ⟨k, hk⟩).symm

theorem arg_of_mem {s t : Shape} {axes : List (Fin s.rank)} (x : s.Idx → EReal) (y : s.Idx → BitVec 32) (h : s.ReducesTo axes t) (hu : 0 < S_.numel)
    (j : t.Idx) (z : ℕ → EReal) (n v : ℕ) (hn : n < 2 ^ 31) (hz : IsFirst n z v) (h0 : ⊥ < z v)
    (hl : ∀ p : EReal × BitVec 32, (∃ i, h.drop i = j ∧ p = (x i, y i)) ↔ ∃ k, k < n ∧ p = (z k, BitVec.ofNat 32 k)) :
    (Host.argReduce (F := Ideal) (φ := .f32) (reducer_argmax_f32_i32 (F := Ideal)) x y
      (constant (F := Ideal) S_ .f32 0xFF800000#32) (constantI S_ 32 0#32) h hu j).2 = BitVec.ofNat 32 v := by
  rw [Ideal.argReduce_eq_reduce2, Host.reduce2_eq_foldl_fiber]
  have hl' : ∀ p : EReal × BitVec 32, p ∈ Host.argReduceFiber x y h j ↔ ∃ k, k < n ∧ p = (z k, BitVec.ofNat 32 k) :=
    fun p => (mem_fiber x y h j p).trans (hl p)
  have e := foldl_first hn hz h0 _ hl' 0#32
  rw [← Cert.Rows.bot_bits] at e
  exact e

theorem arg_first (x : S1x1024x50257.Idx → EReal) (r : Fin 1024) (z : ℕ → EReal) (v : ℕ) (hx : ∀ k : Fin 50257, x (ix3 (0 : Fin 1) r k) = z k.val)
    (hz : IsFirst 50257 z v) (h0 : ⊥ < z v) (y : S1x1024x50257.Idx → BitVec 32) (hy : y = iotaInDim S1x1024x50257 32 2)
    (ix : S_.Idx → EReal) (hix : ix = constant (F := Ideal) S_ .f32 0xFF800000#32) (iy : S_.Idx → BitVec 32) (hiy : iy = constantI S_ 32 0#32) :
    (Host.argReduce (F := Ideal) (φ := .f32) (reducer_argmax_f32_i32 (F := Ideal)) x y ix iy reducesTo_S1x1024x50257_S1x1024_d2 h_S_ (ix2 (0 : Fin 1) r)).2
      = BitVec.ofNat 32 v := by
  rw [hy, hix, hiy]
  exact arg_of_mem x _ _ h_S_ _ z 50257 v (by norm_num) hz h0 fun p => by
    rw [Shape.ReducesTo.drop_eq_drop reducesTo_S1x1024x50257_S1x1024_d2 reduces]
    exact mem_row x r z hx p

/-- The indices of an array of pairs. -/
def seconds (f : S1x1024.Idx → EReal × BitVec 32) : S1x1024.Idx → BitVec 32 := fun j => (f j).2

theorem seconds_apply (f : S1x1024.Idx → EReal × BitVec 32) (j : S1x1024.Idx) (w : BitVec 32) (h : (f j).2 = w) : seconds f j = w := h

theorem arg_pair (x : S1x1024x50257.Idx → EReal) (r : Fin 1024) (z : ℕ → EReal) (v : ℕ) (hx : ∀ k : Fin 50257, x (ix3 (0 : Fin 1) r k) = z k.val)
    (hz : IsFirst 50257 z v) (h0 : ⊥ < z v) (y : S1x1024x50257.Idx → BitVec 32) (hy : y = iotaInDim S1x1024x50257 32 2)
    (ix : S_.Idx → EReal) (hix : ix = constant (F := Ideal) S_ .f32 0xFF800000#32) (iy : S_.Idx → BitVec 32) (hiy : iy = constantI S_ 32 0#32) :
    seconds (Host.argReduce (F := Ideal) (φ := .f32) (reducer_argmax_f32_i32 (F := Ideal)) x y ix iy reducesTo_S1x1024x50257_S1x1024_d2 h_S_)
      (ix2 (0 : Fin 1) r) = BitVec.ofNat 32 v :=
  seconds_apply _ _ _ (arg_first x r z v hx hz h0 y hy ix hix iy hiy)

/-- The reference's argmax. -/
def arg : S1x1024.Idx → BitVec 32 :=
  seconds (Host.argReduce (F := Ideal) (φ := .f32) (reducer_argmax_f32_i32 (F := Ideal)) (smax V0) (res_main_call1_v0 V0) (res_main_call1_cst V0)
    (res_main_call1_c V0) reducesTo_S1x1024x50257_S1x1024_d2 h_S_)

theorem init_idx : res_main_call1_v0 V0 = iotaInDim S1x1024x50257 32 2 := rfl
theorem init_val : res_main_call1_cst V0 = constant (F := Ideal) S_ .f32 0xFF800000#32 := rfl
theorem init_ix : res_main_call1_c V0 = constantI S_ 32 0#32 := rfl

theorem arg_eq (hX : Rows (logits V0)) (r : Fin 1024) : arg V0 (ix2 (0 : Fin 1) r) = BitVec.ofNat 32 (am (logits V0) r.val) := by
  obtain ⟨M, hM⟩ := pert_real hX r.val r.isLt
  have hf := am_first (logits V0) r.val
  have hs := soft_first hf hM
  exact arg_pair (smax V0) r (fun k => ((soft 50257 M (pertAt (logits V0) r.val) k : ℝ) : EReal)) (am (logits V0) r.val) (fun k => smax_row V0 r M hM k)
    hs (EReal.bot_lt_coe (soft 50257 M (pertAt (logits V0) r.val) (am (logits V0) r.val))) (res_main_call1_v0 V0) (init_idx V0)
    (res_main_call1_cst V0) (init_val V0) (res_main_call1_c V0) (init_ix V0)

/-! ### The results -/

/-- The one-hot row made of an index and a softmax: `(hard - soft) + soft`. -/
abbrev through (a : S1x1024.Idx → BitVec 32) (s : S1x1024x50257.Idx → EReal) : S1x1024x50257.Idx → EReal :=
  addf (F := Ideal) (φ := .f32) (subf (F := Ideal) (φ := .f32) (uitofp .f32 (cmpi .eq (broadcastInDim S1x1024x50257 ![0, 1, 2] bcast_S1x1024x1_S1x1024x50257_0_1_2
    (broadcastInDim S1x1024x1 ![0, 1] bcast_S1x1024_S1x1024x1_0_1 a)) (broadcastInDim S1x1024x50257 ![0, 1, 2] bcast_S1x1x50257_S1x1024x50257_0_1_2
      (iotaInDim S1x1x50257 32 2)))) s) s

theorem cols_apply (r : Fin 1024) (v : Fin 50257) : broadcastInDim S1x1024x50257 ![0, 1, 2] bcast_S1x1x50257_S1x1024x50257_0_1_2
    (iotaInDim S1x1x50257 32 2) (ix3 (0 : Fin 1) r v) = BitVec.ofNat 32 v.val :=
  (broadcastInDim_apply _ _ _ _ (ix3 (0 : Fin 1) (0 : Fin 1) v) (fun a => by
    match a with
    | ⟨0, _⟩ => rfl
    | ⟨1, _⟩ => rfl
    | ⟨2, _⟩ => rfl)).trans rfl

theorem hard_add (h s : ℝ) : (h : EReal) - (s : EReal) + (s : EReal) = h := by
  rw [← EReal.coe_sub, ← EReal.coe_add, sub_add_cancel]

theorem through_apply (a : S1x1024.Idx → BitVec 32) (s : S1x1024x50257.Idx → EReal) (r : Fin 1024) (v : Fin 50257) (q : ℝ)
    (hq : s (ix3 (0 : Fin 1) r v) = q) :
    through a s (ix3 (0 : Fin 1) r v) = if BitVec.ofNat 32 v.val = a (ix2 (0 : Fin 1) r) then 1 else 0 := by
  have e : through a s (ix3 (0 : Fin 1) r v) = (((IntOp.cmpi .eq (a (ix2 (0 : Fin 1) r)) (BitVec.ofNat 32 v.val)).toNat : ℝ) : EReal)
      - s (ix3 (0 : Fin 1) r v) + s (ix3 (0 : Fin 1) r v) :=
    congrArg₂ (fun b c : BitVec 32 => (((IntOp.cmpi .eq b c).toNat : ℝ) : EReal) - s (ix3 (0 : Fin 1) r v) + s (ix3 (0 : Fin 1) r v))
      (rowSpread_apply a r v) (cols_apply r v)
  rw [e, hq, hard_add]
  by_cases h : BitVec.ofNat 32 v.val = a (ix2 (0 : Fin 1) r)
  · rw [if_pos h, h]
    simp [IntOp.cmpi]
  · rw [if_neg h]
    have hh : (a (ix2 (0 : Fin 1) r) == BitVec.ofNat 32 v.val) = false := beq_eq_false_iff_ne.2 (Ne.symm h)
    simp [IntOp.cmpi, hh]

theorem onehot_eq (hX : Rows (logits V0)) : through (arg V0) (smax V0) = v6 (logits V0) := by
  funext j
  obtain ⟨M, hM⟩ := pert_real hX (j 1).val (j 1).isLt
  refine (congrArg (through (arg V0) (smax V0)) (idx_eq j)).trans ?_
  refine (through_apply (arg V0) (smax V0) (j 1) (j 2) _ (smax_row V0 (j 1) M hM (j 2))).trans ?_
  exact congrArg (fun b : BitVec 32 => if BitVec.ofNat 32 (j 2).val = b then (1 : EReal) else 0) (arg_eq V0 hX (j 1))

/-- The columns' numbers. -/
abbrev colNums : S1x1024x50257.Idx → EReal :=
  broadcastInDim S1x1024x50257 ![0, 1, 2] bcast_S1x1x50257_S1x1024x50257_0_1_2 (broadcastInDim S1x1x50257 ![2] bcast_S50257_S1x1x50257_2
    (sitofp (F := Ideal) .f32 (iotaInDim S50257 32 0)))

theorem colNums_apply (r : Fin 1024) (v : Fin 50257) : colNums (ix3 (0 : Fin 1) r v) = FloatOps.sitofp (F := Ideal) .f32 (BitVec.ofNat 32 v.val) :=
  (broadcastInDim_apply _ _ _ _ (ix3 (0 : Fin 1) (0 : Fin 1) v) (fun a => by
    match a with
    | ⟨0, _⟩ => rfl
    | ⟨1, _⟩ => rfl
    | ⟨2, _⟩ => rfl)).trans ((broadcastInDim_apply _ _ _ _ (ix1 v) (fun a => by
    match a with
    | ⟨0, _⟩ => rfl)).trans rfl)

theorem ids_eq (hX : Rows (logits V0)) :
    rowSum (mulf (F := Ideal) (φ := .f32) (through (arg V0) (smax V0)) colNums) = v5 (logits V0) := by
  funext j
  rw [onehot_eq V0 hX]
  refine (rowSum_eq _ _ _ j).trans ?_
  have hlt := (am_first (logits V0) (j 1).val).lt
  refine (Finset.sum_eq_single (⟨am (logits V0) (j 1).val, hlt⟩ : Fin 50257) (fun k _ hk => ?_) (fun h => absurd (Finset.mem_univ _) h)).trans ?_
  · show (if BitVec.ofNat 32 k.val = BitVec.ofNat 32 (am (logits V0) (j 1).val) then (1 : EReal) else 0) * _ = 0
    rw [if_neg, zero_mul]
    intro h
    have h' := congrArg BitVec.toNat h
    rw [BitVec.toNat_ofNat, BitVec.toNat_ofNat, Nat.mod_eq_of_lt (by have := k.isLt; omega), Nat.mod_eq_of_lt (by omega)] at h'
    exact hk (Fin.ext h')
  · show (if BitVec.ofNat 32 (am (logits V0) (j 1).val) = BitVec.ofNat 32 (am (logits V0) (j 1).val) then (1 : EReal) else 0) * _ = _
    rw [if_pos rfl, one_mul]
    exact colNums_apply (j 1) ⟨_, hlt⟩

/-- The reference's run: its results are the kernel's functions of the argument. -/
theorem run_value (m : (ℓ : Loc nD τ sig) → Buf (Elt Ideal) ℓ) (ρ : Dev nD → PrngReg) (hX : ∀ c, Rows (logits (launchContents m c))) :
    θ_run defs (onTc (τ := τ) (main (F := Ideal))) ⟨m, fun _ => 0, ρ⟩ fun r => ∀ c : Dev nD,
      r.2.mem ((c.tc : Thread nD τ).loc main_v40) = v5 (logits (launchContents m c))
      ∧ r.2.mem ((c.tc : Thread nD τ).loc main_v35) = v6 (logits (launchContents m c))
      ∧ r.2.mem ((c.tc : Thread nD τ).loc main_arg0) = m ((c.tc : Thread nD τ).loc main_arg0) :=
  (θ_run defs _ _).mono (fun _ h c => ⟨(h c).1.trans (ids_eq (launchContents m c) (hX c)),
    (h c).2.1.trans (onehot_eq (launchContents m c) (hX c)), (h c).2.2⟩) (run m ρ)

/-! ### The precondition -/

theorem finite_spelt (z : S1x1024.Idx → EReal) (hb : S_.BroadcastsInDim S1x1024 (![] : Fin 0 → Fin S1x1024.rank)) (j : S1x1024.Idx) :
    cmpf (F := Ideal) (φ := .f32) .olt (Host.absf z) (broadcastInDim S1x1024 ![] hb (constant S_ .f32 0x7F800000#32)) j
      = BitVec.ofBool (decide (max (z j) (-z j) < Ideal.ofBits .f32 0x7F800000#32)) := rfl

theorem top_bits : Ideal.ofBits .f32 0x7F800000#32 = ⊤ := by simp [Ideal.ofBits, Ideal.ieee]

theorem finite_of_bit {a : EReal} (h : BitVec.ofBool (decide (max a (-a) < Ideal.ofBits .f32 0x7F800000#32)) = 1#1) : ⊥ < a ∧ a < ⊤ := by
  rw [top_bits] at h
  have h' : max a (-a) < ⊤ := by
    by_contra hc
    rw [decide_eq_false hc] at h
    exact absurd h (by decide)
  obtain ⟨h1, h2⟩ := max_lt_iff.1 h'
  refine ⟨bot_lt_iff_ne_bot.2 fun e => ?_, h1⟩
  rw [e, EReal.neg_bot] at h2
  exact lt_irrefl _ h2

/-- A row whose largest entry is a real number is below `⊤` and not everywhere `⊥`. -/
theorem rows_of_pre [Cert.Pre_row_max_finite.Facts] (X : S1x1024x50257.Idx → EReal)
    (h : Cert.Pre_row_max_finite.fn (F := Ideal) X = fun _ => 1#1) : Rows X := by
  intro r
  have hj := congrFun h (ix2 (0 : Fin 1) r)
  unfold Cert.Pre_row_max_finite.fn at hj
  obtain ⟨g1, g2⟩ := finite_of_bit ((finite_spelt _ _ _).symm.trans hj)
  obtain ⟨h1, h2⟩ := rowMax_eq X Cert.Pre_row_max_finite.Facts.reducesTo_S1x1024x50257_S1x1024_d2 Cert.Pre_row_max_finite.Facts.h_S_ (ix2 (0 : Fin 1) r)
  refine ⟨fun v => (h2 v).trans_lt g2, ?_⟩
  rcases h1 with h1 | ⟨k, h1⟩
  · exact absurd h1 g1.ne'
  · exact ⟨k, g1.trans_eq h1⟩

end Cert.ReferenceIdeal.Value
-- ==== Proof.lean ====
/-
  The proof of `Cert.Claim`. The kernel's frames are the generated ones; the reference declares no semaphore, so its run gives the
  frame's conjunct on the counters. The value claim joins the two programs at one function of the logits: each row's first largest
  perturbed column, and the one-hot row of it.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefVal
public import Idealize.ShloMosaic.Adequacy
public import Idealize.ShloMosaic.Init
public import Idealize.ShloMosaic.Lib.Quiescent

@[expose] public section

noncomputable section

namespace Cert.Proof

open Idealize.ShloMosaic Idealize.SL.Sem

theorem quiescent_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2.2, sem_eq_zero_of_no_sems rfl r.2⟩)
    (Cert.ReferenceIdeal.Value.run m ρ)

/-- The precondition's side conditions. -/
theorem pre_facts : Cert.Pre_row_max_finite.Facts where
  reducesTo_S1x1024x50257_S1x1024_d2 := by decide
  h_S_ := by decide
  bcast_S_S1x1024 := by decide

/-- The kernel's run under the precondition: its results are functions of the logits. -/
theorem kernel_value (m : (ℓ : Loc Cert.KernelIdeal.nD Cert.KernelIdeal.τ Cert.KernelIdeal.sig) → Buf (Elt Ideal) ℓ)
    (ρ : Dev Cert.KernelIdeal.nD → PrngReg) (hX : ∀ c, Cert.ReferenceIdeal.Value.Rows (Cert.KernelIdeal.Final.X m c)) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v5)
          = Cert.KernelIdeal.Final.v5 (Cert.KernelIdeal.Final.X m c)
        ∧ r.2.mem ((c.tc : Thread Cert.KernelIdeal.nD Cert.KernelIdeal.τ).loc Cert.KernelIdeal.main_v6)
          = Cert.KernelIdeal.Final.v6 (Cert.KernelIdeal.Final.X m c)
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) :=
  (θ_run Cert.KernelIdeal.defs _ _).mono
    (fun _ h c => ⟨(h c).1.trans (Cert.KernelIdeal.Final.last5 m ρ c (Cert.ReferenceIdeal.Value.pert_bot (hX c))),
      (h c).2.1.trans (Cert.KernelIdeal.Final.last6 m ρ c (Cert.ReferenceIdeal.Value.pert_bot (hX c))), (h c).2.2⟩)
    (Cert.KernelIdeal.Final.run m ρ)

theorem algebraic : @Cert.algebraic_KernelIdeal_ReferenceIdeal_pre_row_max_finite Cert.KernelIdeal.Gen.facts Cert.ReferenceIdeal.Gen.facts pre_facts := by
  intro m g m' g' hpre harg
  have hX : ∀ c, Cert.ReferenceIdeal.Value.Rows (Cert.KernelIdeal.Final.X m c) := fun c =>
    @Cert.ReferenceIdeal.Value.rows_of_pre pre_facts _ (hpre c)
  have e : ∀ c, Cert.ReferenceIdeal.Value.logits (StableHlo.launchContents m' c) = Cert.KernelIdeal.Final.X m c := harg
  refine ⟨fun c => Cert.KernelIdeal.Final.v5 (Cert.KernelIdeal.Final.X m c), fun c => Cert.KernelIdeal.Final.v6 (Cert.KernelIdeal.Final.X m c),
    kernel_value m g hX, ?_⟩
  refine (θ_run Cert.ReferenceIdeal.defs _ _).mono (fun _ h c => ⟨(h c).1.trans ?_, (h c).2.1.trans ?_, (h c).2.2⟩)
    (Cert.ReferenceIdeal.Value.run_value m' g' fun c => (e c).symm ▸ hX c)
  · exact congrArg Cert.KernelIdeal.Final.v5 (e c)
  · exact congrArg Cert.KernelIdeal.Final.v6 (e c)

theorem claim : Cert.Claim := ⟨Cert.Kernel.Gen.facts, Cert.KernelIdeal.Gen.facts, Cert.ReferenceIdeal.Gen.facts, pre_facts,
  fun m ρ _ => Cert.Kernel.Gen.frame m ρ,
  fun m ρ _ => Cert.KernelIdeal.Gen.frame m ρ,
  fun m ρ _ => Cert.KernelIdeal.Gen.frame m ρ,
  fun m ρ _ => quiescent_reference m ρ,
  fun m ρ _ => quiescent_reference m ρ,
  trivial,
  algebraic⟩

end Cert.Proof

end
